-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tops [hPre_finite_tops : Cert.Pre_finite_tops.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tops.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tops [hPre_finite_tops : Cert.Pre_finite_tops.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tops.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_tops [hKernelIdeal : Cert.KernelIdeal.Facts] [hPre_finite_tops : Cert.Pre_finite_tops.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tops m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_tops [hReferenceIdeal : Cert.ReferenceIdeal.Facts] [hPre_finite_tops : Cert.Pre_finite_tops.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tops m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_tops [hKernelIdeal : Cert.KernelIdeal.Facts] [hReferenceIdeal : Cert.ReferenceIdeal.Facts] [hPre_finite_tops : Cert.Pre_finite_tops.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tops m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_tops : Cert.Pre_finite_tops.Facts),
    quiescent_Kernel (hKernel := hKernel)
    ∧ quiescent_KernelIdeal (hKernelIdeal := hKernelIdeal)
    ∧ quiescent_KernelIdeal_pre_finite_tops (hKernelIdeal := hKernelIdeal) (hPre_finite_tops := hPre_finite_tops)
    ∧ quiescent_ReferenceIdeal (hReferenceIdeal := hReferenceIdeal)
    ∧ quiescent_ReferenceIdeal_pre_finite_tops (hReferenceIdeal := hReferenceIdeal) (hPre_finite_tops := hPre_finite_tops)
    ∧ preserves_Kernel_KernelIdeal
    ∧ algebraic_KernelIdeal_ReferenceIdeal_pre_finite_tops (hKernelIdeal := hKernelIdeal) (hReferenceIdeal := hReferenceIdeal) (hPre_finite_tops := hPre_finite_tops)
-- ==== Pre_finite_tops.lean ====
abbrev S16x1024x32x32 : Shape := ⟨4, ![16, 1024, 32, 32]⟩
abbrev S_ : Shape := ⟨0, ![]⟩
abbrev S16x32x32 : Shape := ⟨3, ![16, 32, 32]⟩

class Facts : Prop where
  reducesTo_S16x1024x32x32_S16x32x32_d1 : S16x1024x32x32.ReducesTo [1] S16x32x32
  h_S_ : 0 < S_.numel
  bcast_S_S16x32x32 : S_.BroadcastsInDim S16x32x32 (![] : Fin 0 → Fin S16x32x32.rank)
  reducesTo_S16x32x32_S_d0_1_2 : S16x32x32.ReducesTo [0, 1, 2] S_

variable [Facts]

def fn {F : FTy → Type} [FloatOps F] (main_arg0 : FVec F S16x1024x32x32 .f32) : IVec S_ 1 :=
  let main_cst : FVec F S_ .f32 := constant S_ .f32 0xFF800000#32
  let main_v0 : FVec F S16x32x32 .f32 := (fun x v => Host.reduce FloatOps.maximumf x v reducesTo_S16x1024x32x32_S16x32x32_d1 h_S_) main_arg0 main_cst
  let main_v1 : FVec F S16x32x32 .f32 := Host.absf main_v0
  let main_cst_0 : FVec F S_ .f32 := constant S_ .f32 0x7F800000#32
  let main_v2 : FVec F S16x32x32 .f32 := broadcastInDim S16x32x32 ![] bcast_S_S16x32x32 main_cst_0
  let main_v3 : IVec S16x32x32 1 := cmpf .olt main_v1 main_v2
  let main_c : IVec S_ 1 := constantI S_ 1 1#1
  let main_v4 : IVec S_ 1 := (fun x v => Host.reduce IntOp.andi x v reducesTo_S16x32x32_S_d0_1_2 h_S_) main_v3 main_c
  main_v4
-- ==== Kernel.lean ====
abbrev S16x1024x32x32 : Shape := ⟨4, ![16, 1024, 32, 32]⟩
abbrev S16x1024x1024 : Shape := ⟨3, ![16, 1024, 1024]⟩
abbrev S1x1024x1024 : Shape := ⟨3, ![1, 1024, 1024]⟩
abbrev S8x1024 : Shape := ⟨2, ![8, 1024]⟩
abbrev S1x8x1024 : Shape := ⟨3, ![1, 8, 1024]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x1024x32x32, .f32⟩
  | .hbm, ⟨1, _⟩ => ⟨S16x1024x1024, .f32⟩
  | .hbm, ⟨2, _⟩ => ⟨S16x1024x1024, .f32⟩
  | .hbm, ⟨3, _⟩ => ⟨S16x1024x32x32, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S16x1024x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_0 : BitVec 32 := 0#32
  let c32_i32 : BitVec 32 := 32#32
  let v10 : BitVec 32 := Scalar.addi c0_i32_0 c32_i32
  let c1_i32 : BitVec 32 := 1#32
  ⟨c0_i32_0, v10, c1_i32⟩
def k0_off1 (k0_t1 : Fin k0_t1_loop.trips) (c0_i32_6 : BitVec 32) : Fin 3 → Nat :=
  let c0_49 : Index := 0#32
  let c0_i32_0 : BitVec 32 := 0#32
  let c1_i32 : BitVec 32 := 1#32
  let arg3 : BitVec 32 := Scf.iv c0_i32_0 c1_i32 k0_t1
  let c4_i32 : BitVec 32 := 4#32
  let v28 : BitVec 32 := Scalar.muli arg3 c4_i32
  let v29 : BitVec 32 := Scalar.addi v28 c0_i32_6
  let c8_i32_48 : BitVec 32 := 8#32
  let v218 : BitVec 32 := Scalar.muli v29 c8_i32_48
  let v219 : Index := Scalar.indexCast v218
  let c0_50 : Index := 0#32
  ![0, v219.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x1024x32x32 : Shape := ⟨4, ![16, 1024, 32, 32]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S16x32x32 : Shape := ⟨3, ![16, 32, 32]⟩
abbrev S16x1x32x32 : Shape := ⟨4, ![16, 1, 32, 32]⟩
abbrev S16x32x32x1 : Shape := ⟨4, ![16, 32, 32, 1]⟩
abbrev S1x1x1x1024 : Shape := ⟨4, ![1, 1, 1, 1024]⟩
abbrev S16x32x32x1024 : Shape := ⟨4, ![16, 32, 32, 1024]⟩

abbrev nBuf : Space → Nat
  | .hbm => 330
  | .vmem => 0
  | .smem => 0
  | _ => 0

abbrev hbmTy0_0 (i : Nat) : BufTy := match i % 128 with
  | 0 => ⟨S16x1024x32x32, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1x1, .f32⟩
  | 16 => ⟨S1x1x1x1, .f32⟩
  | 17 => ⟨S1, .i32⟩
  | 18 => ⟨S_, .i32⟩
  | 19 => ⟨S1, .i32⟩
  | 20 => ⟨S_, .i32⟩
  | 21 => ⟨S16x1024x32x32, .i64⟩
  | 22 => ⟨S16x1024x32x32, .i64⟩
  | 23 => ⟨S16x1024x32x32, .i64⟩
  | 24 => ⟨S16x1024x32x32, .i64⟩
  | 25 => ⟨S_, .i64⟩
  | 26 => ⟨S16x1024x32x32, .i64⟩
  | 27 => ⟨S16x1024x32x32, .i64⟩
  | 28 => ⟨S_, .i64⟩
  | 29 => ⟨S16x1024x32x32, .i64⟩
  | 30 => ⟨S16x1024x32x32, .i64⟩
  | 31 => ⟨S_, .i64⟩
  | 32 => ⟨S16x1024x32x32, .i64⟩
  | 33 => ⟨S16x1024x32x32, .i64⟩
  | 34 => ⟨S_, .i64⟩
  | 35 => ⟨S16x1024x32x32, .i64⟩
  | 36 => ⟨S16x1024x32x32, .i64⟩
  | 37 => ⟨S16x1024x32x32, .i64⟩
  | 38 => ⟨S16x1024x32x32, .i64⟩
  | 39 => ⟨S16x1024x32x32, .i64⟩
  | 40 => ⟨S_, .i64⟩
  | 41 => ⟨S16x1024x32x32, .i64⟩
  | 42 => ⟨S16x1024x32x32, .i64⟩
  | 43 => ⟨S16x1024x32x32, .i32⟩
  | 44 => ⟨S16x1024x32x32, .i32⟩
  | 45 => ⟨S_, .i32⟩
  | 46 => ⟨S_, .i32⟩
  | 47 => ⟨S_, .i32⟩
  | 48 => ⟨S16x1024x32x32, .i32⟩
  | 49 => ⟨S16x1024x32x32, .i32⟩
  | 50 => ⟨S16x1024x32x32, .i32⟩
  | 51 => ⟨S16x1024x32x32, .i32⟩
  | 52 => ⟨S16x1024x32x32, .i32⟩
  | 53 => ⟨S_, .i32⟩
  | 54 => ⟨S16x1024x32x32, .i32⟩
  | 55 => ⟨S16x1024x32x32, .i32⟩
  | 56 => ⟨S_, .i32⟩
  | 57 => ⟨S16x1024x32x32, .i32⟩
  | 58 => ⟨S16x1024x32x32, .i32⟩
  | 59 => ⟨S16x1024x32x32, .i32⟩
  | 60 => ⟨S16x1024x32x32, .i32⟩
  | 61 => ⟨S16x1024x32x32, .i32⟩
  | 62 => ⟨S_, .i32⟩
  | 63 => ⟨S16x1024x32x32, .i32⟩
  | 64 => ⟨S16x1024x32x32, .i32⟩
  | 65 => ⟨S_, .i32⟩
  | 66 => ⟨S16x1024x32x32, .i32⟩
  | 67 => ⟨S16x1024x32x32, .i32⟩
  | 68 => ⟨S16x1024x32x32, .i32⟩
  | 69 => ⟨S16x1024x32x32, .i32⟩
  | 70 => ⟨S16x1024x32x32, .i32⟩
  | 71 => ⟨S_, .i32⟩
  | 72 => ⟨S16x1024x32x32, .i32⟩
  | 73 => ⟨S16x1024x32x32, .i32⟩
  | 74 => ⟨S_, .i32⟩
  | 75 => ⟨S16x1024x32x32, .i32⟩
  | 76 => ⟨S16x1024x32x32, .i32⟩
  | 77 => ⟨S16x1024x32x32, .i32⟩
  | 78 => ⟨S16x1024x32x32, .i32⟩
  | 79 => ⟨S16x1024x32x32, .i32⟩
  | 80 => ⟨S_, .i32⟩
  | 81 => ⟨S16x1024x32x32, .i32⟩
  | 82 => ⟨S16x1024x32x32, .i32⟩
  | 83 => ⟨S_, .i32⟩
  | 84 => ⟨S16x1024x32x32, .i32⟩
  | 85 => ⟨S16x1024x32x32, .i32⟩
  | 86 => ⟨S16x1024x32x32, .i32⟩
  | 87 => ⟨S16x1024x32x32, .i32⟩
  | 88 => ⟨S16x1024x32x32, .i32⟩
  | 89 => ⟨S16x1024x32x32, .i32⟩
  | 90 => ⟨S16x1024x32x32, .i32⟩
  | 91 => ⟨S16x1024x32x32, .i32⟩
  | 92 => ⟨S_, .i32⟩
  | 93 => ⟨S16x1024x32x32, .i32⟩
  | 94 => ⟨S16x1024x32x32, .i32⟩
  | 95 => ⟨S16x1024x32x32, .i32⟩
  | 96 => ⟨S_, .i32⟩
  | 97 => ⟨S16x1024x32x32, .i32⟩
  | 98 => ⟨S16x1024x32x32, .i32⟩
  | 99 => ⟨S_, .i32⟩
  | 100 => ⟨S16x1024x32x32, .i32⟩
  | 101 => ⟨S16x1024x32x32, .i32⟩
  | 102 => ⟨S16x1024x32x32, .i32⟩
  | 103 => ⟨S16x1024x32x32, .i32⟩
  | 104 => ⟨S16x1024x32x32, .i32⟩
  | 105 => ⟨S_, .i32⟩
  | 106 => ⟨S16x1024x32x32, .i32⟩
  | 107 => ⟨S16x1024x32x32, .i32⟩
  | 108 => ⟨S_, .i32⟩
  | 109 => ⟨S16x1024x32x32, .i32⟩
  | 110 => ⟨S16x1024x32x32, .i32⟩
  | 111 => ⟨S16x1024x32x32, .i32⟩
  | 112 => ⟨S16x1024x32x32, .i32⟩
  | 113 => ⟨S16x1024x32x32, .i32⟩
  | 114 => ⟨S_, .i32⟩
  | 115 => ⟨S16x1024x32x32, .i32⟩
  | 116 => ⟨S16x1024x32x32, .i32⟩
  | 117 => ⟨S_, .i32⟩
  | 118 => ⟨S16x1024x32x32, .i32⟩
  | 119 => ⟨S16x1024x32x32, .i32⟩
  | 120 => ⟨S16x1024x32x32, .i32⟩
  | 121 => ⟨S16x1024x32x32, .i32⟩
  | 122 => ⟨S16x1024x32x32, .i32⟩
  | 123 => ⟨S_, .i32⟩
  | 124 => ⟨S16x1024x32x32, .i32⟩
  | 125 => ⟨S16x1024x32x32, .i32⟩
  | 126 => ⟨S_, .i32⟩
  | 127 => ⟨S16x1024x32x32, .i32⟩
  | _ => ⟨S16x1024x32x32, .f32⟩

abbrev hbmTy0_1 (i : Nat) : BufTy := match i % 128 with
  | 0 => ⟨S16x1024x32x32, .i32⟩
  | 1 => ⟨S16x1024x32x32, .i32⟩
  | 2 => ⟨S16x1024x32x32, .i32⟩
  | 3 => ⟨S16x1024x32x32, .i32⟩
  | 4 => ⟨S16x1024x32x32, .i32⟩
  | 5 => ⟨S16x1024x32x32, .i32⟩
  | 6 => ⟨S16x1024x32x32, .i32⟩
  | 7 => ⟨S_, .i32⟩
  | 8 => ⟨S16x1024x32x32, .i32⟩
  | 9 => ⟨S16x1024x32x32, .i32⟩
  | 10 => ⟨S16x1024x32x32, .i32⟩
  | 11 => ⟨S_, .i32⟩
  | 12 => ⟨S16x1024x32x32, .i32⟩
  | 13 => ⟨S16x1024x32x32, .i32⟩
  | 14 => ⟨S_, .i32⟩
  | 15 => ⟨S16x1024x32x32, .i32⟩
  | 16 => ⟨S16x1024x32x32, .i32⟩
  | 17 => ⟨S16x1024x32x32, .i32⟩
  | 18 => ⟨S16x1024x32x32, .i32⟩
  | 19 => ⟨S16x1024x32x32, .i32⟩
  | 20 => ⟨S_, .i32⟩
  | 21 => ⟨S16x1024x32x32, .i32⟩
  | 22 => ⟨S16x1024x32x32, .i32⟩
  | 23 => ⟨S_, .i32⟩
  | 24 => ⟨S16x1024x32x32, .i32⟩
  | 25 => ⟨S16x1024x32x32, .i32⟩
  | 26 => ⟨S16x1024x32x32, .i32⟩
  | 27 => ⟨S16x1024x32x32, .i32⟩
  | 28 => ⟨S16x1024x32x32, .i32⟩
  | 29 => ⟨S_, .i32⟩
  | 30 => ⟨S16x1024x32x32, .i32⟩
  | 31 => ⟨S16x1024x32x32, .i32⟩
  | 32 => ⟨S_, .i32⟩
  | 33 => ⟨S16x1024x32x32, .i32⟩
  | 34 => ⟨S16x1024x32x32, .i32⟩
  | 35 => ⟨S16x1024x32x32, .i32⟩
  | 36 => ⟨S16x1024x32x32, .i32⟩
  | 37 => ⟨S16x1024x32x32, .i32⟩
  | 38 => ⟨S_, .i32⟩
  | 39 => ⟨S16x1024x32x32, .i32⟩
  | 40 => ⟨S16x1024x32x32, .i32⟩
  | 41 => ⟨S_, .i32⟩
  | 42 => ⟨S16x1024x32x32, .i32⟩
  | 43 => ⟨S16x1024x32x32, .i32⟩
  | 44 => ⟨S16x1024x32x32, .i32⟩
  | 45 => ⟨S16x1024x32x32, .i32⟩
  | 46 => ⟨S16x1024x32x32, .i32⟩
  | 47 => ⟨S16x1024x32x32, .i32⟩
  | 48 => ⟨S16x1024x32x32, .i32⟩
  | 49 => ⟨S16x1024x32x32, .i32⟩
  | 50 => ⟨S_, .i32⟩
  | 51 => ⟨S16x1024x32x32, .i32⟩
  | 52 => ⟨S16x1024x32x32, .i32⟩
  | 53 => ⟨S16x1024x32x32, .i32⟩
  | 54 => ⟨S_, .i32⟩
  | 55 => ⟨S16x1024x32x32, .i32⟩
  | 56 => ⟨S16x1024x32x32, .i32⟩
  | 57 => ⟨S_, .i32⟩
  | 58 => ⟨S16x1024x32x32, .i32⟩
  | 59 => ⟨S16x1024x32x32, .i32⟩
  | 60 => ⟨S16x1024x32x32, .i32⟩
  | 61 => ⟨S16x1024x32x32, .i32⟩
  | 62 => ⟨S16x1024x32x32, .i32⟩
  | 63 => ⟨S_, .i32⟩
  | 64 => ⟨S16x1024x32x32, .i32⟩
  | 65 => ⟨S16x1024x32x32, .i32⟩
  | 66 => ⟨S_, .i32⟩
  | 67 => ⟨S16x1024x32x32, .i32⟩
  | 68 => ⟨S16x1024x32x32, .i32⟩
  | 69 => ⟨S16x1024x32x32, .i32⟩
  | 70 => ⟨S16x1024x32x32, .i32⟩
  | 71 => ⟨S16x1024x32x32, .i32⟩
  | 72 => ⟨S_, .i32⟩
  | 73 => ⟨S16x1024x32x32, .i32⟩
  | 74 => ⟨S16x1024x32x32, .i32⟩
  | 75 => ⟨S_, .i32⟩
  | 76 => ⟨S16x1024x32x32, .i32⟩
  | 77 => ⟨S16x1024x32x32, .i32⟩
  | 78 => ⟨S16x1024x32x32, .i32⟩
  | 79 => ⟨S16x1024x32x32, .i32⟩
  | 80 => ⟨S16x1024x32x32, .i32⟩
  | 81 => ⟨S_, .i32⟩
  | 82 => ⟨S16x1024x32x32, .i32⟩
  | 83 => ⟨S16x1024x32x32, .i32⟩
  | 84 => ⟨S_, .i32⟩
  | 85 => ⟨S16x1024x32x32, .i32⟩
  | 86 => ⟨S16x1024x32x32, .i32⟩
  | 87 => ⟨S16x1024x32x32, .i32⟩
  | 88 => ⟨S16x1024x32x32, .i32⟩
  | 89 => ⟨S16x1024x32x32, .i32⟩
  | 90 => ⟨S16x1024x32x32, .i32⟩
  | 91 => ⟨S16x1024x32x32, .i32⟩
  | 92 => ⟨S16x1024x32x32, .i32⟩
  | 93 => ⟨S_, .i32⟩
  | 94 => ⟨S16x1024x32x32, .i32⟩
  | 95 => ⟨S16x1024x32x32, .i32⟩
  | 96 => ⟨S16x1024x32x32, .i32⟩
  | 97 => ⟨S_, .i32⟩
  | 98 => ⟨S16x1024x32x32, .i32⟩
  | 99 => ⟨S16x1024x32x32, .i32⟩
  | 100 => ⟨S_, .i32⟩
  | 101 => ⟨S16x1024x32x32, .i32⟩
  | 102 => ⟨S16x1024x32x32, .i32⟩
  | 103 => ⟨S16x1024x32x32, .i32⟩
  | 104 => ⟨S16x1024x32x32, .i32⟩
  | 105 => ⟨S16x1024x32x32, .i32⟩
  | 106 => ⟨S_, .i32⟩
  | 107 => ⟨S16x1024x32x32, .i32⟩
  | 108 => ⟨S16x1024x32x32, .i32⟩
  | 109 => ⟨S_, .i32⟩
  | 110 => ⟨S16x1024x32x32, .i32⟩
  | 111 => ⟨S16x1024x32x32, .i32⟩
  | 112 => ⟨S16x1024x32x32, .i32⟩
  | 113 => ⟨S16x1024x32x32, .i32⟩
  | 114 => ⟨S16x1024x32x32, .i32⟩
  | 115 => ⟨S_, .i32⟩
  | 116 => ⟨S16x1024x32x32, .i32⟩
  | 117 => ⟨S16x1024x32x32, .i32⟩
  | 118 => ⟨S_, .i32⟩
  | 119 => ⟨S16x1024x32x32, .i32⟩
  | 120 => ⟨S16x1024x32x32, .i32⟩
  | 121 => ⟨S16x1024x32x32, .i32⟩
  | 122 => ⟨S16x1024x32x32, .i32⟩
  | 123 => ⟨S16x1024x32x32, .i32⟩
  | 124 => ⟨S_, .i32⟩
  | 125 => ⟨S16x1024x32x32, .i32⟩
  | 126 => ⟨S16x1024x32x32, .i32⟩
  | 127 => ⟨S_, .i32⟩
  | _ => ⟨S16x1024x32x32, .f32⟩

abbrev hbmTy0_2 (i : Nat) : BufTy := match i % 128 with
  | 0 => ⟨S16x1024x32x32, .i32⟩
  | 1 => ⟨S16x1024x32x32, .i32⟩
  | 2 => ⟨S16x1024x32x32, .i32⟩
  | 3 => ⟨S16x1024x32x32, .i32⟩
  | 4 => ⟨S16x1024x32x32, .i32⟩
  | 5 => ⟨S16x1024x32x32, .i32⟩
  | 6 => ⟨S16x1024x32x32, .i32⟩
  | 7 => ⟨S16x1024x32x32, .i32⟩
  | 8 => ⟨S_, .i32⟩
  | 9 => ⟨S16x1024x32x32, .i32⟩
  | 10 => ⟨S16x1024x32x32, .i32⟩
  | 11 => ⟨S16x1024x32x32, .i32⟩
  | 12 => ⟨S_, .i32⟩
  | 13 => ⟨S16x1024x32x32, .i32⟩
  | 14 => ⟨S16x1024x32x32, .i32⟩
  | 15 => ⟨S_, .i32⟩
  | 16 => ⟨S16x1024x32x32, .i32⟩
  | 17 => ⟨S16x1024x32x32, .i32⟩
  | 18 => ⟨S16x1024x32x32, .f32⟩
  | 19 => ⟨S_, .f32⟩
  | 20 => ⟨S16x1024x32x32, .f32⟩
  | 21 => ⟨S16x1024x32x32, .f32⟩
  | 22 => ⟨S1x1x1x1, .f32⟩
  | 23 => ⟨S16x1024x32x32, .f32⟩
  | 24 => ⟨S16x1024x32x32, .f32⟩
  | 25 => ⟨S16x1024x32x32, .f32⟩
  | 26 => ⟨S16x1024x32x32, .f32⟩
  | 27 => ⟨S16x1024x32x32, .f32⟩
  | 28 => ⟨S16x1024x32x32, .f32⟩
  | 29 => ⟨S_, .f32⟩
  | 30 => ⟨S16x1024x32x32, .f32⟩
  | 31 => ⟨S16x1024x32x32, .f32⟩
  | 32 => ⟨S_, .f32⟩
  | 33 => ⟨S16x1024x32x32, .f32⟩
  | 34 => ⟨S16x1024x32x32, .f32⟩
  | 35 => ⟨S_, .f32⟩
  | 36 => ⟨S16x1024x32x32, .f32⟩
  | 37 => ⟨S16x1024x32x32, .f32⟩
  | 38 => ⟨S16x1024x32x32, .f32⟩
  | 39 => ⟨S16x1024x32x32, .f32⟩
  | 40 => ⟨S16x1024x32x32, .f32⟩
  | 41 => ⟨S16x1024x32x32, .f32⟩
  | 42 => ⟨S16x1024x32x32, .f32⟩
  | 43 => ⟨S_, .f32⟩
  | 44 => ⟨S16x1024x32x32, .f32⟩
  | 45 => ⟨S16x1024x32x32, .f32⟩
  | 46 => ⟨S_, .f32⟩
  | 47 => ⟨S16x32x32, .f32⟩
  | 48 => ⟨S_, .f32⟩
  | 49 => ⟨S16x32x32, .f32⟩
  | 50 => ⟨S16x32x32, .f32⟩
  | 51 => ⟨S16x1x32x32, .f32⟩
  | 52 => ⟨S16x1024x32x32, .f32⟩
  | 53 => ⟨S16x1024x32x32, .f32⟩
  | 54 => ⟨S16x1024x32x32, .f32⟩
  | 55 => ⟨S_, .f32⟩
  | 56 => ⟨S16x32x32, .f32⟩
  | 57 => ⟨S16x1x32x32, .f32⟩
  | 58 => ⟨S16x1024x32x32, .f32⟩
  | 59 => ⟨S16x1024x32x32, .f32⟩
  | 60 => ⟨S16x1024x32x32, .i32⟩
  | 61 => ⟨S_, .f32⟩
  | 62 => ⟨S_, .i32⟩
  | 63 => ⟨S16x32x32, .f32⟩
  | 64 => ⟨S16x32x32, .i32⟩
  | 65 => ⟨S16x32x32x1, .i32⟩
  | 66 => ⟨S1x1x1x1024, .i32⟩
  | 67 => ⟨S16x32x32x1024, .i32⟩
  | 68 => ⟨S16x32x32x1024, .i32⟩
  | 69 => ⟨S16x32x32x1024, .i1⟩
  | 70 => ⟨S16x32x32x1024, .f32⟩
  | 71 => ⟨S16x1024x32x32, .f32⟩
  | 72 => ⟨S16x1024x32x32, .f32⟩
  | 73 => ⟨S16x1024x32x32, .f32⟩
  | _ => ⟨S16x1024x32x32, .f32⟩

abbrev hbmTy (i : Nat) : BufTy := match i / 128 with
  | 0 => hbmTy0_0 i
  | 1 => hbmTy0_1 i
  | 2 => hbmTy0_2 i
  | _ => ⟨S16x1024x32x32, .f32⟩

abbrev bufTy : (tb : Table) → Fin (tcTables nBuf tb) → BufTy
  | .hbm, ⟨i, _⟩ => hbmTy i
  | _, _ => ⟨S16x1024x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c : Ref sig .tc := ⟨.hbm, 25, rfl⟩
abbrev main_call0_v12 : Ref sig .tc := ⟨.hbm, 26, rfl⟩
abbrev main_call0_v13 : Ref sig .tc := ⟨.hbm, 27, rfl⟩
abbrev main_call0_c_0 : Ref sig .tc := ⟨.hbm, 28, rfl⟩
abbrev main_call0_v14 : Ref sig .tc := ⟨.hbm, 29, rfl⟩
abbrev main_call0_v15 : Ref sig .tc := ⟨.hbm, 30, rfl⟩
abbrev main_call0_c_1 : Ref sig .tc := ⟨.hbm, 31, rfl⟩
abbrev main_call0_v16 : Ref sig .tc := ⟨.hbm, 32, rfl⟩
abbrev main_call0_v17 : Ref sig .tc := ⟨.hbm, 33, rfl⟩
abbrev main_call0_c_2 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_c_3 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_call0_v0 : Ref sig .tc := ⟨.hbm, 45, rfl⟩
abbrev main_call0_call0_c : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_c_0 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_c_1 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_call0_v12 : Ref sig .tc := ⟨.hbm, 60, rfl⟩
abbrev main_call0_call0_v13 : Ref sig .tc := ⟨.hbm, 61, rfl⟩
abbrev main_call0_call0_c_2 : Ref sig .tc := ⟨.hbm, 62, rfl⟩
abbrev main_call0_call0_v14 : Ref sig .tc := ⟨.hbm, 63, rfl⟩
abbrev main_call0_call0_v15 : Ref sig .tc := ⟨.hbm, 64, rfl⟩
abbrev main_call0_call0_c_3 : Ref sig .tc := ⟨.hbm, 65, rfl⟩
abbrev main_call0_call0_v16 : Ref sig .tc := ⟨.hbm, 66, rfl⟩
abbrev main_call0_call0_v17 : Ref sig .tc := ⟨.hbm, 67, rfl⟩
abbrev main_call0_call0_v18 : Ref sig .tc := ⟨.hbm, 68, rfl⟩
abbrev main_call0_call0_v19 : Ref sig .tc := ⟨.hbm, 69, rfl⟩
abbrev main_call0_call0_v20 : Ref sig .tc := ⟨.hbm, 70, rfl⟩
abbrev main_call0_call0_c_4 : Ref sig .tc := ⟨.hbm, 71, rfl⟩
abbrev main_call0_call0_v21 : Ref sig .tc := ⟨.hbm, 72, rfl⟩
abbrev main_call0_call0_v22 : Ref sig .tc := ⟨.hbm, 73, rfl⟩
abbrev main_call0_call0_c_5 : Ref sig .tc := ⟨.hbm, 74, rfl⟩
abbrev main_call0_call0_v23 : Ref sig .tc := ⟨.hbm, 75, rfl⟩
abbrev main_call0_call0_v24 : Ref sig .tc := ⟨.hbm, 76, rfl⟩
abbrev main_call0_call0_v25 : Ref sig .tc := ⟨.hbm, 77, rfl⟩
abbrev main_call0_call0_v26 : Ref sig .tc := ⟨.hbm, 78, rfl⟩
abbrev main_call0_call0_v27 : Ref sig .tc := ⟨.hbm, 79, rfl⟩
abbrev main_call0_call0_c_6 : Ref sig .tc := ⟨.hbm, 80, rfl⟩
abbrev main_call0_call0_v28 : Ref sig .tc := ⟨.hbm, 81, rfl⟩
abbrev main_call0_call0_v29 : Ref sig .tc := ⟨.hbm, 82, rfl⟩
abbrev main_call0_call0_c_7 : Ref sig .tc := ⟨.hbm, 83, rfl⟩
abbrev main_call0_call0_v30 : Ref sig .tc := ⟨.hbm, 84, rfl⟩
abbrev main_call0_call0_v31 : Ref sig .tc := ⟨.hbm, 85, rfl⟩
abbrev main_call0_call0_v32 : Ref sig .tc := ⟨.hbm, 86, rfl⟩
abbrev main_call0_call0_v33 : Ref sig .tc := ⟨.hbm, 87, rfl⟩
abbrev main_call0_call0_v34 : Ref sig .tc := ⟨.hbm, 88, rfl⟩
abbrev main_call0_call0_v35 : Ref sig .tc := ⟨.hbm, 89, rfl⟩
abbrev main_call0_call0_v36 : Ref sig .tc := ⟨.hbm, 90, rfl⟩
abbrev main_call0_call0_v37 : Ref sig .tc := ⟨.hbm, 91, rfl⟩
abbrev main_call0_call0_c_8 : Ref sig .tc := ⟨.hbm, 92, rfl⟩
abbrev main_call0_call0_v38 : Ref sig .tc := ⟨.hbm, 93, rfl⟩
abbrev main_call0_call0_v39 : Ref sig .tc := ⟨.hbm, 94, rfl⟩
abbrev main_call0_call0_v40 : Ref sig .tc := ⟨.hbm, 95, rfl⟩
abbrev main_call0_call0_c_9 : Ref sig .tc := ⟨.hbm, 96, rfl⟩
abbrev main_call0_call0_v41 : Ref sig .tc := ⟨.hbm, 97, rfl⟩
abbrev main_call0_call0_v42 : Ref sig .tc := ⟨.hbm, 98, rfl⟩
abbrev main_call0_call0_c_10 : Ref sig .tc := ⟨.hbm, 99, rfl⟩
abbrev main_call0_call0_v43 : Ref sig .tc := ⟨.hbm, 100, rfl⟩
abbrev main_call0_call0_v44 : Ref sig .tc := ⟨.hbm, 101, rfl⟩
abbrev main_call0_call0_v45 : Ref sig .tc := ⟨.hbm, 102, rfl⟩
abbrev main_call0_call0_v46 : Ref sig .tc := ⟨.hbm, 103, rfl⟩
abbrev main_call0_call0_v47 : Ref sig .tc := ⟨.hbm, 104, rfl⟩
abbrev main_call0_call0_c_11 : Ref sig .tc := ⟨.hbm, 105, rfl⟩
abbrev main_call0_call0_v48 : Ref sig .tc := ⟨.hbm, 106, rfl⟩
abbrev main_call0_call0_v49 : Ref sig .tc := ⟨.hbm, 107, rfl⟩
abbrev main_call0_call0_c_12 : Ref sig .tc := ⟨.hbm, 108, rfl⟩
abbrev main_call0_call0_v50 : Ref sig .tc := ⟨.hbm, 109, rfl⟩
abbrev main_call0_call0_v51 : Ref sig .tc := ⟨.hbm, 110, rfl⟩
abbrev main_call0_call0_v52 : Ref sig .tc := ⟨.hbm, 111, rfl⟩
abbrev main_call0_call0_v53 : Ref sig .tc := ⟨.hbm, 112, rfl⟩
abbrev main_call0_call0_v54 : Ref sig .tc := ⟨.hbm, 113, rfl⟩
abbrev main_call0_call0_c_13 : Ref sig .tc := ⟨.hbm, 114, rfl⟩
abbrev main_call0_call0_v55 : Ref sig .tc := ⟨.hbm, 115, rfl⟩
abbrev main_call0_call0_v56 : Ref sig .tc := ⟨.hbm, 116, rfl⟩
abbrev main_call0_call0_c_14 : Ref sig .tc := ⟨.hbm, 117, rfl⟩
abbrev main_call0_call0_v57 : Ref sig .tc := ⟨.hbm, 118, rfl⟩
abbrev main_call0_call0_v58 : Ref sig .tc := ⟨.hbm, 119, rfl⟩
abbrev main_call0_call0_v59 : Ref sig .tc := ⟨.hbm, 120, rfl⟩
abbrev main_call0_call0_v60 : Ref sig .tc := ⟨.hbm, 121, rfl⟩
abbrev main_call0_call0_v61 : Ref sig .tc := ⟨.hbm, 122, rfl⟩
abbrev main_call0_call0_c_15 : Ref sig .tc := ⟨.hbm, 123, rfl⟩
abbrev main_call0_call0_v62 : Ref sig .tc := ⟨.hbm, 124, rfl⟩
abbrev main_call0_call0_v63 : Ref sig .tc := ⟨.hbm, 125, rfl⟩
abbrev main_call0_call0_c_16 : Ref sig .tc := ⟨.hbm, 126, rfl⟩
abbrev main_call0_call0_v64 : Ref sig .tc := ⟨.hbm, 127, rfl⟩
abbrev main_call0_call0_v65 : Ref sig .tc := ⟨.hbm, 128, rfl⟩
abbrev main_call0_call0_v66 : Ref sig .tc := ⟨.hbm, 129, rfl⟩
abbrev main_call0_call0_v67 : Ref sig .tc := ⟨.hbm, 130, rfl⟩
abbrev main_call0_call0_v68 : Ref sig .tc := ⟨.hbm, 131, rfl⟩
abbrev main_call0_call0_v69 : Ref sig .tc := ⟨.hbm, 132, rfl⟩
abbrev main_call0_call0_v70 : Ref sig .tc := ⟨.hbm, 133, rfl⟩
abbrev main_call0_call0_v71 : Ref sig .tc := ⟨.hbm, 134, rfl⟩
abbrev main_call0_call0_c_17 : Ref sig .tc := ⟨.hbm, 135, rfl⟩
abbrev main_call0_call0_v72 : Ref sig .tc := ⟨.hbm, 136, rfl⟩
abbrev main_call0_call0_v73 : Ref sig .tc := ⟨.hbm, 137, rfl⟩
abbrev main_call0_call0_v74 : Ref sig .tc := ⟨.hbm, 138, rfl⟩
abbrev main_call0_call0_c_18 : Ref sig .tc := ⟨.hbm, 139, rfl⟩
abbrev main_call0_call0_v75 : Ref sig .tc := ⟨.hbm, 140, rfl⟩
abbrev main_call0_call0_v76 : Ref sig .tc := ⟨.hbm, 141, rfl⟩
abbrev main_call0_call0_c_19 : Ref sig .tc := ⟨.hbm, 142, rfl⟩
abbrev main_call0_call0_v77 : Ref sig .tc := ⟨.hbm, 143, rfl⟩
abbrev main_call0_call0_v78 : Ref sig .tc := ⟨.hbm, 144, rfl⟩
abbrev main_call0_call0_v79 : Ref sig .tc := ⟨.hbm, 145, rfl⟩
abbrev main_call0_call0_v80 : Ref sig .tc := ⟨.hbm, 146, rfl⟩
abbrev main_call0_call0_v81 : Ref sig .tc := ⟨.hbm, 147, rfl⟩
abbrev main_call0_call0_c_20 : Ref sig .tc := ⟨.hbm, 148, rfl⟩
abbrev main_call0_call0_v82 : Ref sig .tc := ⟨.hbm, 149, rfl⟩
abbrev main_call0_call0_v83 : Ref sig .tc := ⟨.hbm, 150, rfl⟩
abbrev main_call0_call0_c_21 : Ref sig .tc := ⟨.hbm, 151, rfl⟩
abbrev main_call0_call0_v84 : Ref sig .tc := ⟨.hbm, 152, rfl⟩
abbrev main_call0_call0_v85 : Ref sig .tc := ⟨.hbm, 153, rfl⟩
abbrev main_call0_call0_v86 : Ref sig .tc := ⟨.hbm, 154, rfl⟩
abbrev main_call0_call0_v87 : Ref sig .tc := ⟨.hbm, 155, rfl⟩
abbrev main_call0_call0_v88 : Ref sig .tc := ⟨.hbm, 156, rfl⟩
abbrev main_call0_call0_c_22 : Ref sig .tc := ⟨.hbm, 157, rfl⟩
abbrev main_call0_call0_v89 : Ref sig .tc := ⟨.hbm, 158, rfl⟩
abbrev main_call0_call0_v90 : Ref sig .tc := ⟨.hbm, 159, rfl⟩
abbrev main_call0_call0_c_23 : Ref sig .tc := ⟨.hbm, 160, rfl⟩
abbrev main_call0_call0_v91 : Ref sig .tc := ⟨.hbm, 161, rfl⟩
abbrev main_call0_call0_v92 : Ref sig .tc := ⟨.hbm, 162, rfl⟩
abbrev main_call0_call0_v93 : Ref sig .tc := ⟨.hbm, 163, rfl⟩
abbrev main_call0_call0_v94 : Ref sig .tc := ⟨.hbm, 164, rfl⟩
abbrev main_call0_call0_v95 : Ref sig .tc := ⟨.hbm, 165, rfl⟩
abbrev main_call0_call0_c_24 : Ref sig .tc := ⟨.hbm, 166, rfl⟩
abbrev main_call0_call0_v96 : Ref sig .tc := ⟨.hbm, 167, rfl⟩
abbrev main_call0_call0_v97 : Ref sig .tc := ⟨.hbm, 168, rfl⟩
abbrev main_call0_call0_c_25 : Ref sig .tc := ⟨.hbm, 169, rfl⟩
abbrev main_call0_call0_v98 : Ref sig .tc := ⟨.hbm, 170, rfl⟩
abbrev main_call0_call0_v99 : Ref sig .tc := ⟨.hbm, 171, rfl⟩
abbrev main_call0_call0_v100 : Ref sig .tc := ⟨.hbm, 172, rfl⟩
abbrev main_call0_call0_v101 : Ref sig .tc := ⟨.hbm, 173, rfl⟩
abbrev main_call0_call0_v102 : Ref sig .tc := ⟨.hbm, 174, rfl⟩
abbrev main_call0_call0_v103 : Ref sig .tc := ⟨.hbm, 175, rfl⟩
abbrev main_call0_call0_v104 : Ref sig .tc := ⟨.hbm, 176, rfl⟩
abbrev main_call0_call0_v105 : Ref sig .tc := ⟨.hbm, 177, rfl⟩
abbrev main_call0_call0_c_26 : Ref sig .tc := ⟨.hbm, 178, rfl⟩
abbrev main_call0_call0_v106 : Ref sig .tc := ⟨.hbm, 179, rfl⟩
abbrev main_call0_call0_v107 : Ref sig .tc := ⟨.hbm, 180, rfl⟩
abbrev main_call0_call0_v108 : Ref sig .tc := ⟨.hbm, 181, rfl⟩
abbrev main_call0_call0_c_27 : Ref sig .tc := ⟨.hbm, 182, rfl⟩
abbrev main_call0_call0_v109 : Ref sig .tc := ⟨.hbm, 183, rfl⟩
abbrev main_call0_call0_v110 : Ref sig .tc := ⟨.hbm, 184, rfl⟩
abbrev main_call0_call0_c_28 : Ref sig .tc := ⟨.hbm, 185, rfl⟩
abbrev main_call0_call0_v111 : Ref sig .tc := ⟨.hbm, 186, rfl⟩
abbrev main_call0_call0_v112 : Ref sig .tc := ⟨.hbm, 187, rfl⟩
abbrev main_call0_call0_v113 : Ref sig .tc := ⟨.hbm, 188, rfl⟩
abbrev main_call0_call0_v114 : Ref sig .tc := ⟨.hbm, 189, rfl⟩
abbrev main_call0_call0_v115 : Ref sig .tc := ⟨.hbm, 190, rfl⟩
abbrev main_call0_call0_c_29 : Ref sig .tc := ⟨.hbm, 191, rfl⟩
abbrev main_call0_call0_v116 : Ref sig .tc := ⟨.hbm, 192, rfl⟩
abbrev main_call0_call0_v117 : Ref sig .tc := ⟨.hbm, 193, rfl⟩
abbrev main_call0_call0_c_30 : Ref sig .tc := ⟨.hbm, 194, rfl⟩
abbrev main_call0_call0_v118 : Ref sig .tc := ⟨.hbm, 195, rfl⟩
abbrev main_call0_call0_v119 : Ref sig .tc := ⟨.hbm, 196, rfl⟩
abbrev main_call0_call0_v120 : Ref sig .tc := ⟨.hbm, 197, rfl⟩
abbrev main_call0_call0_v121 : Ref sig .tc := ⟨.hbm, 198, rfl⟩
abbrev main_call0_call0_v122 : Ref sig .tc := ⟨.hbm, 199, rfl⟩
abbrev main_call0_call0_c_31 : Ref sig .tc := ⟨.hbm, 200, rfl⟩
abbrev main_call0_call0_v123 : Ref sig .tc := ⟨.hbm, 201, rfl⟩
abbrev main_call0_call0_v124 : Ref sig .tc := ⟨.hbm, 202, rfl⟩
abbrev main_call0_call0_c_32 : Ref sig .tc := ⟨.hbm, 203, rfl⟩
abbrev main_call0_call0_v125 : Ref sig .tc := ⟨.hbm, 204, rfl⟩
abbrev main_call0_call0_v126 : Ref sig .tc := ⟨.hbm, 205, rfl⟩
abbrev main_call0_call0_v127 : Ref sig .tc := ⟨.hbm, 206, rfl⟩
abbrev main_call0_call0_v128 : Ref sig .tc := ⟨.hbm, 207, rfl⟩
abbrev main_call0_call0_v129 : Ref sig .tc := ⟨.hbm, 208, rfl⟩
abbrev main_call0_call0_c_33 : Ref sig .tc := ⟨.hbm, 209, rfl⟩
abbrev main_call0_call0_v130 : Ref sig .tc := ⟨.hbm, 210, rfl⟩
abbrev main_call0_call0_v131 : Ref sig .tc := ⟨.hbm, 211, rfl⟩
abbrev main_call0_call0_c_34 : Ref sig .tc := ⟨.hbm, 212, rfl⟩
abbrev main_call0_call0_v132 : Ref sig .tc := ⟨.hbm, 213, rfl⟩
abbrev main_call0_call0_v133 : Ref sig .tc := ⟨.hbm, 214, rfl⟩
abbrev main_call0_call0_v134 : Ref sig .tc := ⟨.hbm, 215, rfl⟩
abbrev main_call0_call0_v135 : Ref sig .tc := ⟨.hbm, 216, rfl⟩
abbrev main_call0_call0_v136 : Ref sig .tc := ⟨.hbm, 217, rfl⟩
abbrev main_call0_call0_v137 : Ref sig .tc := ⟨.hbm, 218, rfl⟩
abbrev main_call0_call0_v138 : Ref sig .tc := ⟨.hbm, 219, rfl⟩
abbrev main_call0_call0_v139 : Ref sig .tc := ⟨.hbm, 220, rfl⟩
abbrev main_call0_call0_c_35 : Ref sig .tc := ⟨.hbm, 221, rfl⟩
abbrev main_call0_call0_v140 : Ref sig .tc := ⟨.hbm, 222, rfl⟩
abbrev main_call0_call0_v141 : Ref sig .tc := ⟨.hbm, 223, rfl⟩
abbrev main_call0_call0_v142 : Ref sig .tc := ⟨.hbm, 224, rfl⟩
abbrev main_call0_call0_c_36 : Ref sig .tc := ⟨.hbm, 225, rfl⟩
abbrev main_call0_call0_v143 : Ref sig .tc := ⟨.hbm, 226, rfl⟩
abbrev main_call0_call0_v144 : Ref sig .tc := ⟨.hbm, 227, rfl⟩
abbrev main_call0_call0_c_37 : Ref sig .tc := ⟨.hbm, 228, rfl⟩
abbrev main_call0_call0_v145 : Ref sig .tc := ⟨.hbm, 229, rfl⟩
abbrev main_call0_call0_v146 : Ref sig .tc := ⟨.hbm, 230, rfl⟩
abbrev main_call0_call0_v147 : Ref sig .tc := ⟨.hbm, 231, rfl⟩
abbrev main_call0_call0_v148 : Ref sig .tc := ⟨.hbm, 232, rfl⟩
abbrev main_call0_call0_v149 : Ref sig .tc := ⟨.hbm, 233, rfl⟩
abbrev main_call0_call0_c_38 : Ref sig .tc := ⟨.hbm, 234, rfl⟩
abbrev main_call0_call0_v150 : Ref sig .tc := ⟨.hbm, 235, rfl⟩
abbrev main_call0_call0_v151 : Ref sig .tc := ⟨.hbm, 236, rfl⟩
abbrev main_call0_call0_c_39 : Ref sig .tc := ⟨.hbm, 237, rfl⟩
abbrev main_call0_call0_v152 : Ref sig .tc := ⟨.hbm, 238, rfl⟩
abbrev main_call0_call0_v153 : Ref sig .tc := ⟨.hbm, 239, rfl⟩
abbrev main_call0_call0_v154 : Ref sig .tc := ⟨.hbm, 240, rfl⟩
abbrev main_call0_call0_v155 : Ref sig .tc := ⟨.hbm, 241, rfl⟩
abbrev main_call0_call0_v156 : Ref sig .tc := ⟨.hbm, 242, rfl⟩
abbrev main_call0_call0_c_40 : Ref sig .tc := ⟨.hbm, 243, rfl⟩
abbrev main_call0_call0_v157 : Ref sig .tc := ⟨.hbm, 244, rfl⟩
abbrev main_call0_call0_v158 : Ref sig .tc := ⟨.hbm, 245, rfl⟩
abbrev main_call0_call0_c_41 : Ref sig .tc := ⟨.hbm, 246, rfl⟩
abbrev main_call0_call0_v159 : Ref sig .tc := ⟨.hbm, 247, rfl⟩
abbrev main_call0_call0_v160 : Ref sig .tc := ⟨.hbm, 248, rfl⟩
abbrev main_call0_call0_v161 : Ref sig .tc := ⟨.hbm, 249, rfl⟩
abbrev main_call0_call0_v162 : Ref sig .tc := ⟨.hbm, 250, rfl⟩
abbrev main_call0_call0_v163 : Ref sig .tc := ⟨.hbm, 251, rfl⟩
abbrev main_call0_call0_c_42 : Ref sig .tc := ⟨.hbm, 252, rfl⟩
abbrev main_call0_call0_v164 : Ref sig .tc := ⟨.hbm, 253, rfl⟩
abbrev main_call0_call0_v165 : Ref sig .tc := ⟨.hbm, 254, rfl⟩
abbrev main_call0_call0_c_43 : Ref sig .tc := ⟨.hbm, 255, rfl⟩
abbrev main_call0_call0_v166 : Ref sig .tc := ⟨.hbm, 256, rfl⟩
abbrev main_call0_call0_v167 : Ref sig .tc := ⟨.hbm, 257, rfl⟩
abbrev main_call0_call0_v168 : Ref sig .tc := ⟨.hbm, 258, rfl⟩
abbrev main_call0_call0_v169 : Ref sig .tc := ⟨.hbm, 259, rfl⟩
abbrev main_call0_call0_v170 : Ref sig .tc := ⟨.hbm, 260, rfl⟩
abbrev main_call0_v27_0 : Ref sig .tc := ⟨.hbm, 261, rfl⟩
abbrev main_call0_call0_v172 : Ref sig .tc := ⟨.hbm, 262, rfl⟩
abbrev main_call0_call0_v173 : Ref sig .tc := ⟨.hbm, 263, rfl⟩
abbrev main_call0_call0_c_44 : Ref sig .tc := ⟨.hbm, 264, rfl⟩
abbrev main_call0_call0_v174 : Ref sig .tc := ⟨.hbm, 265, rfl⟩
abbrev main_call0_v27_1 : Ref sig .tc := ⟨.hbm, 266, rfl⟩
abbrev main_call0_v28 : Ref sig .tc := ⟨.hbm, 267, rfl⟩
abbrev main_call0_c_4 : Ref sig .tc := ⟨.hbm, 268, rfl⟩
abbrev main_call0_v29 : Ref sig .tc := ⟨.hbm, 269, rfl⟩
abbrev main_call0_v30 : Ref sig .tc := ⟨.hbm, 270, rfl⟩
abbrev main_call0_c_5 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_cst : Ref sig .tc := ⟨.hbm, 275, rfl⟩
abbrev main_call0_v34 : Ref sig .tc := ⟨.hbm, 276, rfl⟩
abbrev main_call0_v35 : Ref sig .tc := ⟨.hbm, 277, rfl⟩
abbrev main_call0_v36 : Ref sig .tc := ⟨.hbm, 278, rfl⟩
abbrev main_call0_v37 : Ref sig .tc := ⟨.hbm, 279, rfl⟩
abbrev main_call0_v38 : Ref sig .tc := ⟨.hbm, 280, rfl⟩
abbrev main_call0_v39 : Ref sig .tc := ⟨.hbm, 281, rfl⟩
abbrev main_call0_v40 : Ref sig .tc := ⟨.hbm, 282, rfl⟩
abbrev main_call0_v41 : Ref sig .tc := ⟨.hbm, 283, rfl⟩
abbrev main_v7 : Ref sig .tc := ⟨.hbm, 284, rfl⟩
abbrev main_cst_3 : Ref sig .tc := ⟨.hbm, 285, rfl⟩
abbrev main_v8 : Ref sig .tc := ⟨.hbm, 286, rfl⟩
abbrev main_v9 : Ref sig .tc := ⟨.hbm, 287, rfl⟩
abbrev main_cst_4 : Ref sig .tc := ⟨.hbm, 288, rfl⟩
abbrev main_v10 : Ref sig .tc := ⟨.hbm, 289, rfl⟩
abbrev main_v11 : Ref sig .tc := ⟨.hbm, 290, rfl⟩
abbrev main_cst_5 : Ref sig .tc := ⟨.hbm, 291, rfl⟩
abbrev main_v12 : Ref sig .tc := ⟨.hbm, 292, rfl⟩
abbrev main_v13 : Ref sig .tc := ⟨.hbm, 293, rfl⟩
abbrev main_v14 : Ref sig .tc := ⟨.hbm, 294, rfl⟩
abbrev main_v15 : Ref sig .tc := ⟨.hbm, 295, rfl⟩
abbrev main_v16 : Ref sig .tc := ⟨.hbm, 296, rfl⟩
abbrev main_v17 : Ref sig .tc := ⟨.hbm, 297, rfl⟩
abbrev main_v18 : Ref sig .tc := ⟨.hbm, 298, rfl⟩
abbrev main_cst_6 : Ref sig .tc := ⟨.hbm, 299, rfl⟩
abbrev main_v19 : Ref sig .tc := ⟨.hbm, 300, rfl⟩
abbrev main_v20 : Ref sig .tc := ⟨.hbm, 301, rfl⟩
abbrev main_cst_7 : Ref sig .tc := ⟨.hbm, 302, rfl⟩
abbrev main_v21 : Ref sig .tc := ⟨.hbm, 303, rfl⟩
abbrev main_cst_8 : Ref sig .tc := ⟨.hbm, 304, rfl⟩
abbrev main_v22 : Ref sig .tc := ⟨.hbm, 305, rfl⟩
abbrev main_v23 : Ref sig .tc := ⟨.hbm, 306, rfl⟩
abbrev main_v24 : Ref sig .tc := ⟨.hbm, 307, rfl⟩
abbrev main_v25 : Ref sig .tc := ⟨.hbm, 308, rfl⟩
abbrev main_v26 : Ref sig .tc := ⟨.hbm, 309, rfl⟩
abbrev main_v27 : Ref sig .tc := ⟨.hbm, 310, rfl⟩
abbrev main_cst_9 : Ref sig .tc := ⟨.hbm, 311, rfl⟩
abbrev main_v28 : Ref sig .tc := ⟨.hbm, 312, rfl⟩
abbrev main_v29 : Ref sig .tc := ⟨.hbm, 313, rfl⟩
abbrev main_v30 : Ref sig .tc := ⟨.hbm, 314, rfl⟩
abbrev main_v31 : Ref sig .tc := ⟨.hbm, 315, rfl⟩
abbrev main_call1_v0 : Ref sig .tc := ⟨.hbm, 316, rfl⟩
abbrev main_call1_cst : Ref sig .tc := ⟨.hbm, 317, rfl⟩
abbrev main_call1_c : Ref sig .tc := ⟨.hbm, 318, rfl⟩
abbrev main_call1_v1_0 : Ref sig .tc := ⟨.hbm, 319, rfl⟩
abbrev main_v32 : Ref sig .tc := ⟨.hbm, 320, rfl⟩
abbrev main_call2_v0 : Ref sig .tc := ⟨.hbm, 321, rfl⟩
abbrev main_call2_v1 : Ref sig .tc := ⟨.hbm, 322, rfl⟩
abbrev main_call2_v2 : Ref sig .tc := ⟨.hbm, 323, rfl⟩
abbrev main_call2_v3 : Ref sig .tc := ⟨.hbm, 324, rfl⟩
abbrev main_call2_v4 : Ref sig .tc := ⟨.hbm, 325, rfl⟩
abbrev main_v33 : Ref sig .tc := ⟨.hbm, 326, rfl⟩
abbrev main_v34 : Ref sig .tc := ⟨.hbm, 327, rfl⟩
abbrev main_v35 : Ref sig .tc := ⟨.hbm, 328, rfl⟩
abbrev main_v36 : Ref sig .tc := ⟨.hbm, 329, rfl⟩

abbrev nD : Nat := 1
abbrev τ : Topo := Topo.v7x

variable {F : FTy → Type} [FloatOps F]
-- ==== Proof.HostLine.lean ====
module

public import Idealize.ShloMosaic.Lib.StableHlo.Run
public import Idealize.ShloMosaic.Lib.StableHlo.RunHlo

@[expose] public section

noncomputable section

/-!
# The equations of a straight line of host operations

A host program that writes every buffer once, in ascending order of the buffers' numbers, ends in contents of which each of
its operations is an equation: the buffer it writes holds the operation's function of the buffers it reads, all at the end.
`Line` collects these equations while the program is walked through.
-/

namespace Cert.HostLine

open Idealize.ShloMosaic Idealize.ShloMosaic.StableHlo Idealize.SL.Sem

variable {nD : Nat} {τ : Topo} {sig : RefSig} {Val : EltTy → Type} {Λ : Labels}

/-- `p` is a straight line of operations that writes buffers numbered `n` and up, and whatever it starts from, it ends in contents of which `E` holds. -/
def Line (n : ℕ) (p : Prog (TpuEff nD τ sig Val Λ .tc) PUnit) (E : Valuation τ sig Val → Prop) : Prop :=
  ∃ ops : List (HloOp τ sig Val), p = seq ops ∧ (ops.Forall fun op => op.bufs ⊆ tcRefs τ sig) ∧ (∀ op ∈ ops, op.fresh = ∅) ∧
    (∀ (r : Ref sig .tc), r.idx.val < n → ∀ V, after ops V (Proc.devRef .tc r) = V (Proc.devRef .tc r)) ∧ ∀ V, E (after ops V)

variable {n n' : ℕ} {k p : Prog (TpuEff nD τ sig Val Λ .tc) PUnit} {E : Valuation τ sig Val → Prop}

/-- The empty line has no equation. -/
theorem Line.nil (n : ℕ) : Line (nD := nD) (τ := τ) (sig := sig) (Val := Val) (Λ := Λ) n (pure ⟨⟩) (fun _ => True) :=
  ⟨[], rfl, trivial, fun _ h => (List.not_mem_nil h).elim, fun _ _ _ => rfl, fun _ => trivial⟩

/-- A line whose head is itself a line is read from the head's first operation on. -/
theorem Line.assoc {f g : PUnit → Prog (TpuEff nD τ sig Val Λ .tc) PUnit} (h : Line n (p >>= fun a => f a >>= g) E) :
    Line n ((p >>= f) >>= g) E := by
  rw [bind_assoc]; exact h

/-- A line that starts by returning is read on. -/
theorem Line.pure {g : PUnit → Prog (TpuEff nD τ sig Val Λ .tc) PUnit} (h : Line n (g ⟨⟩) E) :
    Line n ((Pure.pure ⟨⟩ : Prog (TpuEff nD τ sig Val Λ .tc) PUnit) >>= g) E := by
  rw [pure_bind]; exact h

/-- One operation that writes the buffer `y` alone, with what it writes a function of buffers numbered below `n'`. -/
theorem Line.op (op : HloOp τ sig Val) (y : Ref sig .tc) (rhs : Valuation τ sig Val → y.ty.Contents Val)
    (hw : op.writes = {Proc.devRef .tc y}) (hb : op.bufs ⊆ tcRefs τ sig) (hf : op.fresh = ∅)
    (hres : ∀ V, op.result V (Proc.devRef .tc y) = rhs V)
    (hdep : ∀ V V' : Valuation τ sig Val, (∀ r : Ref sig .tc, r.idx.val < n' → V' (Proc.devRef .tc r) = V (Proc.devRef .tc r)) → rhs V' = rhs V)
    (hx : ∀ (V W : Valuation τ sig Val), W = op.result V → rhs W = rhs V)
    (hn : n ≤ y.idx.val) (hn' : y.idx.val < n') (h : Line n' k E) :
    Line n ((hlo rfl op fun _ => .ret (⟨⟩ : PUnit)) >>= fun _ => k) (fun W => W (Proc.devRef .tc y) = rhs W ∧ E W) := by
  obtain ⟨ops, rfl, hS, hF, hK, hE⟩ := h
  refine ⟨op :: ops, rfl, (List.forall_cons _ _ _).mpr ⟨hb, hS⟩, ?_, ?_, ?_⟩
  · intro o ho
    rcases List.mem_cons.mp ho with rfl | ho
    · exact hf
    · exact hF o ho
  · intro r hr V
    rw [after_cons, hK r (lt_of_lt_of_le hr (hn.trans hn'.le)),
      HloOp.result_of_not_mem _ _ (by
        rw [hw, Finset.mem_singleton]
        exact devRef_ne_of_ne (fun e => absurd (e ▸ hr) (Nat.not_lt.mpr hn)))]
  · intro V
    refine ⟨?_, hE _⟩
    rw [after_cons, hK y hn', hres, ← hx V _ rfl]
    exact (hdep _ _ fun r hr => hK r hr _).symm

section builders

variable (x a b c e y : Ref sig .tc)

private theorem ne_of_idx {r y : Ref sig .tc} (h : r.idx.val < y.idx.val) : r ≠ y := fun e => absurd (e ▸ h) (lt_irrefl _)

/-- The equation of a constant. -/
theorem Line.nullary (v : y.ty.Contents Val) (hy) (hn : n ≤ y.idx.val) (h : Line (y.idx.val + 1) k E) :
    Line n ((hlo rfl (StableHlo.nullary (τ := τ) y v hy) fun _ => .ret (⟨⟩ : PUnit)) >>= fun _ => k)
      (fun W => W (Proc.devRef .tc y) = v ∧ E W) :=
  Line.op _ y (fun _ => v) (nullary_writes ..) (nullary_bufs_sub ..) rfl (fun V => nullary_result ..) (fun _ _ _ => rfl)
    (fun _ _ _ => rfl) hn (Nat.lt_succ_self _) h

/-- The equation of an operation of one operand. -/
theorem Line.unary (f : x.ty.Contents Val → y.ty.Contents Val) (hx hy) (hn : n ≤ y.idx.val) (hxy : x.idx.val < y.idx.val)
    (h : Line (y.idx.val + 1) k E) :
    Line n ((hlo rfl (StableHlo.unary (τ := τ) x y f hx hy) fun _ => .ret (⟨⟩ : PUnit)) >>= fun _ => k)
      (fun W => W (Proc.devRef .tc y) = f (W (Proc.devRef .tc x)) ∧ E W) :=
  Line.op _ y (fun W => f (W (Proc.devRef .tc x))) (unary_writes ..) (unary_bufs_sub ..) rfl (fun V => unary_result ..)
    (fun _ _ hV => by rw [hV x (hxy.trans (Nat.lt_succ_self _))])
    (fun _ _ hW => by rw [hW, unary_result_ne _ _ _ _ _ _ (ne_of_idx hxy)]) hn (Nat.lt_succ_self _) h

/-- The equation of an operation of two operands. -/
theorem Line.binary (f : a.ty.Contents Val → b.ty.Contents Val → y.ty.Contents Val) (ha hb hy) (hn : n ≤ y.idx.val)
    (hay : a.idx.val < y.idx.val) (hby : b.idx.val < y.idx.val) (h : Line (y.idx.val + 1) k E) :
    Line n ((hlo rfl (StableHlo.binary (τ := τ) a b y f ha hb hy) fun _ => .ret (⟨⟩ : PUnit)) >>= fun _ => k)
      (fun W => W (Proc.devRef .tc y) = f (W (Proc.devRef .tc a)) (W (Proc.devRef .tc b)) ∧ E W) :=
  Line.op _ y (fun W => f (W (Proc.devRef .tc a)) (W (Proc.devRef .tc b))) (binary_writes ..) (binary_bufs_sub ..) rfl
    (fun V => binary_result ..)
    (fun _ _ hV => by rw [hV a (hay.trans (Nat.lt_succ_self _)), hV b (hby.trans (Nat.lt_succ_self _))])
    (fun _ _ hW => by rw [hW, binary_result_ne _ _ _ _ _ _ _ _ (ne_of_idx hay), binary_result_ne _ _ _ _ _ _ _ _ (ne_of_idx hby)])
    hn (Nat.lt_succ_self _) h

/-- The equation of an operation of four operands. -/
theorem Line.quaternary (f : a.ty.Contents Val → b.ty.Contents Val → c.ty.Contents Val → e.ty.Contents Val → y.ty.Contents Val)
    (ha hb hc he hy) (hn : n ≤ y.idx.val) (hay : a.idx.val < y.idx.val) (hby : b.idx.val < y.idx.val)
    (hcy : c.idx.val < y.idx.val) (hey : e.idx.val < y.idx.val) (h : Line (y.idx.val + 1) k E) :
    Line n ((hlo rfl (StableHlo.quaternary (τ := τ) a b c e y f ha hb hc he hy) fun _ => .ret (⟨⟩ : PUnit)) >>= fun _ => k)
      (fun W => W (Proc.devRef .tc y) =
        f (W (Proc.devRef .tc a)) (W (Proc.devRef .tc b)) (W (Proc.devRef .tc c)) (W (Proc.devRef .tc e)) ∧ E W) :=
  Line.op _ y (fun W => f (W (Proc.devRef .tc a)) (W (Proc.devRef .tc b)) (W (Proc.devRef .tc c)) (W (Proc.devRef .tc e)))
    (quaternary_writes ..) (quaternary_bufs_sub ..) rfl (fun V => quaternary_result ..)
    (fun _ _ hV => by
      rw [hV a (hay.trans (Nat.lt_succ_self _)), hV b (hby.trans (Nat.lt_succ_self _)),
        hV c (hcy.trans (Nat.lt_succ_self _)), hV e (hey.trans (Nat.lt_succ_self _))])
    (fun _ _ hW => by
      rw [hW, quaternary_result_ne _ _ _ _ _ _ _ _ _ _ _ _ (ne_of_idx hay), quaternary_result_ne _ _ _ _ _ _ _ _ _ _ _ _ (ne_of_idx hby),
        quaternary_result_ne _ _ _ _ _ _ _ _ _ _ _ _ (ne_of_idx hcy), quaternary_result_ne _ _ _ _ _ _ _ _ _ _ _ _ (ne_of_idx hey)])
    hn (Nat.lt_succ_self _) h

/-- The equation of a reshape. -/
theorem Line.reshape (he : x.ty.elt = y.ty.elt) (hs : x.ty.shape.ShapeCasts y.ty.shape) (hx hy) (hn : n ≤ y.idx.val)
    (hxy : x.idx.val < y.idx.val) (h : Line (y.idx.val + 1) k E) :
    Line n ((hlo rfl (StableHlo.reshape (τ := τ) (Val := Val) x y he hs hx hy) fun _ => .ret (⟨⟩ : PUnit)) >>= fun _ => k)
      (fun W => W (Proc.devRef .tc y) = (fun i => he ▸ shapeCast y.ty.shape (W (Proc.devRef .tc x)) hs i) ∧ E W) :=
  Line.op _ y (fun W => fun i => he ▸ shapeCast y.ty.shape (W (Proc.devRef .tc x)) hs i) (reshape_writes ..) (reshape_bufs_sub ..) rfl
    (fun V => reshape_result ..)
    (fun _ _ hV => by rw [hV x (hxy.trans (Nat.lt_succ_self _))])
    (fun _ _ hW => by rw [hW, reshape_result_ne _ _ _ _ _ _ _ (ne_of_idx hxy)]) hn (Nat.lt_succ_self _) h

end builders

/-- A line of the whole program runs: it ends with its equations true on every device, the buffers it does not write as they were. -/
theorem Line.run (defs : Defs nD τ sig Val Λ) (main : Dev nD → Prog (TpuEff nD τ sig Val Λ .tc) PUnit)
    (h : ∀ d d', main d = main d') (d₀ : Dev nD) (hl : Line n (main d₀) E)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ d : Dev nD, ∃ W : Valuation τ sig Val, E W ∧ (∀ b : Ref sig .tc, r.2.mem ((d.tc : Thread nD τ).loc b) = W (Proc.devRef .tc b)) ∧
        ∀ b : Ref sig .tc, b.idx.val < n → W (Proc.devRef .tc b) = m ((d.tc : Thread nD τ).loc b) := by
  obtain ⟨ops, hp, hS, hF, hK, hE⟩ := hl
  refine θ_run_mono (run_hlo defs main (ops := ops) (fun d => (h d d₀).trans hp) hR hC hS hF m ρ) fun r hr d => ?_
  exact ⟨_, hE (launchContents m d), fun b => hr d b, fun b hb => hK b hb _⟩

end Cert.HostLine

end
-- ==== Proof.RefRun.lean ====
module

public import proofs.«01_k».proof.Proof.HostLine
public import proofs.«01_k».proof.Proof.Gen.ReferenceIdeal
public import Idealize.ShloMosaic.Lib.Quiescent

@[expose] public section

set_option maxRecDepth 65536
set_option maxHeartbeats 20000000

noncomputable section

/-!
# The run of the reference

The reference is a straight line of host operations. `refLine` walks through it once and collects its equations.
-/

namespace Cert.ReferenceIdeal.Own

open Idealize.ShloMosaic Idealize.ShloMosaic.TcCoe Idealize.SL.Sem Cert.ReferenceIdeal Cert.ReferenceIdeal.Gen Cert.HostLine

variable {F : FTy → Type} [FloatOps F]

/-- The reference's equations, one per operation, and that the reference ends with them true. -/
def refLine (d : Dev nD) : { E : Valuation τ sig (Elt F) → Prop // Line 1 (main (F := F) d) E } := by
  apply Subtype.mk
  case property =>
    unfold main
    repeat (first
      | exact Line.nil _
      | (with_reducible apply Line.nullary; decide)
      | (with_reducible apply Line.unary; decide; decide)
      | (with_reducible apply Line.binary; decide; decide; decide)
      | (with_reducible apply Line.reshape; decide; decide)
      | (with_reducible apply Line.quaternary; decide; decide; decide; decide; decide)
      | with_reducible apply Line.assoc
      | with_reducible apply Line.pure
      | unfold fn_uniform.body
      | unfold fn_threefry2x32.body
      | unfold fn_threefry2x32.body_part0
      | unfold fn_threefry2x32.body_part1
      | unfold fn_threefry2x32.body_part2
      | unfold fn_threefry2x32.body_part3
      | unfold fn_argmax.body
      | unfold fn_one_hot.body)

/-- The reference runs: on every device it ends in contents of which its equations hold, the argument as it was, and no semaphore raised. -/
theorem ref_run (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, ∃ W : Valuation τ sig (Elt F), (refLine d).1 W ∧
        (∀ b : Ref sig .tc, r.2.mem ((d.tc : Thread nD τ).loc b) = W (Proc.devRef .tc b)) ∧
        W (Proc.devRef .tc main_arg0) = m ((d.tc : Thread nD τ).loc main_arg0)) ∧ r.2.sem = fun _ => 0 := by
  refine θ_run_mono (Line.run (defs (F := F)) (main (F := F)) (fun _ _ => rfl) default (refLine default).2 (by decide) (by decide) m ρ)
    fun r h => ⟨fun d => ?_, sem_eq_zero_of_no_sems (by decide) r.2⟩
  obtain ⟨W, hE, hW, hA⟩ := h d
  refine ⟨W, ?_, hW, hA main_arg0 (by decide)⟩
  rw [Subsingleton.elim d default]; exact hE

end Cert.ReferenceIdeal.Own

end
-- ==== Proof.Frames.lean ====
module

public import proofs.«01_k».proof.Defs
public import proofs.«01_k».proof.Proof.RefRun
public import proofs.«01_k».proof.Proof.Gen.Kernel.Frame
public import proofs.«01_k».proof.Proof.Gen.KernelIdeal.Frame

@[expose] public section

noncomputable section

/-!
# The frame claims

The kernel, its idealization and the reference run, leave their argument as it was and end with every semaphore at zero.
-/

namespace Cert.Own

open Idealize.ShloMosaic Idealize.SL.Sem

/-- The kernel, at the bit-exact instance. -/
theorem frame_kernel : Cert.quiescent_Kernel (hKernel := Cert.Kernel.Gen.facts) := fun m ρ _ =>
  Cert.Kernel.Gen.frame (F := Bits) m ρ

/-- The kernel, at the ideal instance. -/
theorem frame_kernelIdeal : Cert.quiescent_KernelIdeal (hKernelIdeal := Cert.KernelIdeal.Gen.facts) := fun m ρ _ =>
  Cert.KernelIdeal.Gen.frame (F := Ideal) m ρ

/-- The reference, at the ideal instance. -/
theorem frame_referenceIdeal : Cert.quiescent_ReferenceIdeal (hReferenceIdeal := Cert.ReferenceIdeal.Gen.facts) := fun m ρ _ =>
  θ_run_mono (Cert.ReferenceIdeal.Own.ref_run (F := Ideal) m ρ) fun _ h => ⟨fun d => by
    obtain ⟨W, -, hW, hA⟩ := h.1 d
    rw [hW, hA], h.2⟩

end Cert.Own

end
-- ==== Proof.Cipher.lean ====
module

public import Idealize.ShloMosaic.Lib.Pointwise

@[expose] public section

noncomputable section

/-!
# The cipher

Both programs draw their numbers with the Threefry cipher: twenty rounds on a pair of words, a key added after
each fourth. It is stated once, on arrays of words of any shape, with the equations that fold a written-out chain of
operations into it.
-/

namespace Cert.Cipher

open Idealize.ShloMosaic

variable {S : Shape}

/-- One round of the cipher on an array of pairs: add, rotate left by `r` (right by `s`), exclusive or. -/
def turn (r s : BitVec 32) (p : IVec S 32 × IVec S 32) : IVec S 32 × IVec S 32 :=
  (addi p.1 p.2, xori (addi p.1 p.2) (ori (shli p.2 (broadcast S r)) (shrui p.2 (broadcast S s))))

/-- The key words added after four rounds. -/
def feed (a b : BitVec 32) (p : IVec S 32 × IVec S 32) : IVec S 32 × IVec S 32 :=
  (addi p.1 (broadcast S a), addi p.2 (broadcast S b))

/-- The rotation of round `t`: the amount to the left. -/
def rotL (t : ℕ) : BitVec 32 := ![13#32, 15#32, 26#32, 6#32, 17#32, 29#32, 16#32, 24#32] (Fin.ofNat 8 t)

/-- The rotation of round `t`: what comes back on the right. -/
def rotR (t : ℕ) : BitVec 32 := ![19#32, 17#32, 6#32, 26#32, 15#32, 3#32, 16#32, 8#32] (Fin.ofNat 8 t)

/-- What is added to the first word after round `t`. -/
def feedL (t : ℕ) : BitVec 32 := ![42#32, 466689008#32, 0#32, 42#32, 466689008#32] (Fin.ofNat 5 (t / 4))

/-- What is added to the second word after round `t`. -/
def feedR (t : ℕ) : BitVec 32 := ![466689009#32, 2#32, 45#32, 466689012#32, 5#32] (Fin.ofNat 5 (t / 4))

/-- The pair of words after `t` rounds on the counter words `n`, a key added after each fourth. -/
def cipher (n : IVec S 32) : ℕ → IVec S 32 × IVec S 32
  | 0 => (addi (broadcast S 0#32) (broadcast S 0#32), addi n (broadcast S 42#32))
  | t + 1 => if t % 4 = 3 then feed (feedL t) (feedR t) (turn (rotL t) (rotR t) (cipher n t))
      else turn (rotL t) (rotR t) (cipher n t)

section folds

variable (n : IVec S 32) {t u : ℕ} {r s : BitVec 32}

/-- The first word of the first round. -/
theorem fold_first : addi (addi (broadcast S 0#32) (broadcast S 0#32)) (addi n (broadcast S 42#32)) =
    (cipher n 1).1 := rfl

/-- The second word of the first round. -/
theorem fold_second : xori (cipher n 1).1 (ori (shli (addi n (broadcast S 42#32)) (broadcast S 13#32))
    (shrui (addi n (broadcast S 42#32)) (broadcast S 19#32))) = (cipher n 1).2 := rfl

/-- A round that no key follows: the first word. -/
theorem fold_add (h : ¬ t % 4 = 3) : addi (cipher n t).1 (cipher n t).2 = (cipher n (t + 1)).1 := by
  simp only [cipher, h, if_false, turn]

/-- A round that no key follows: the second word. -/
theorem fold_xor (h : ¬ t % 4 = 3) (hu : u = t + 1) (hr : r = rotL t) (hs : s = rotR t) :
    xori (cipher n u).1 (ori (shli (cipher n t).2 (broadcast S r)) (shrui (cipher n t).2 (broadcast S s))) =
      (cipher n u).2 := by
  subst hu hr hs; simp only [cipher, h, if_false, turn]

/-- A round that a key follows: the first word. -/
theorem fold_feed (h : t % 4 = 3) (hr : r = feedL t) :
    addi (addi (cipher n t).1 (cipher n t).2) (broadcast S r) = (cipher n (t + 1)).1 := by
  subst hr; simp only [cipher, h, if_true, turn, feed]

/-- A round that a key follows: the second word. -/
theorem fold_feed_xor (h : t % 4 = 3) {x : BitVec 32} (hr : r = rotL t) (hs : s = rotR t) (hx : x = feedR t) :
    addi (xori (addi (cipher n t).1 (cipher n t).2) (ori (shli (cipher n t).2 (broadcast S r))
      (shrui (cipher n t).2 (broadcast S s)))) (broadcast S x) = (cipher n (t + 1)).2 := by
  subst hr hs hx; simp only [cipher, h, if_true, turn, feed]

end folds

end Cert.Cipher

end
-- ==== Proof.Noise.lean ====
module

public import proofs.«01_k».proof.Proof.Cipher
public import Idealize.ShloMosaic.Lib.ValueIdx
public import Idealize.ShloMosaic.Lib.IdealHost

@[expose] public section

noncomputable section

/-!
# The noise of a counter

The number that either program draws at a place depends only on the place's counter: the cipher turns the counter
into a word, 23 bits of the word spell a fraction, and the fraction becomes a real number.
-/

namespace Cert.Noise

open Idealize.ShloMosaic Cert.Cipher

/-- The word drawn for a counter. -/
def draw (n : BitVec 32) : BitVec 32 :=
  xori (cipher (S := ⟨0, ![]⟩) (fun _ => n) 20).1 (cipher (S := ⟨0, ![]⟩) (fun _ => n) 20).2 (fun a => a.elim0)

/-- The cipher at a place is the cipher of the place's counter. -/
theorem cipher_at {S T : Shape} (n : IVec S 32) (k : IVec T 32) (i : S.Idx) (j : T.Idx) (h : n i = k j) (t : ℕ) :
    (cipher n t).1 i = (cipher k t).1 j ∧ (cipher n t).2 i = (cipher k t).2 j := by
  induction t with
  | zero => exact ⟨rfl, congrArg (· + 42#32) h⟩
  | succ t ih =>
    have hturn : ∀ r s : BitVec 32, (turn r s (cipher n t)).1 i = (turn r s (cipher k t)).1 j ∧
        (turn r s (cipher n t)).2 i = (turn r s (cipher k t)).2 j := by
      intro r s
      have h1 : addi (cipher n t).1 (cipher n t).2 i = addi (cipher k t).1 (cipher k t).2 j :=
        congrArg₂ (· + ·) ih.1 ih.2
      refine ⟨h1, ?_⟩
      show IntOp.xori (addi (cipher n t).1 (cipher n t).2 i) (IntOp.ori (IntOp.shli .vector ((cipher n t).2 i) r) (IntOp.shrui .vector ((cipher n t).2 i) s)) = _
      rw [h1, ih.2]; rfl
    simp only [cipher]
    split
    · exact ⟨congrArg (· + feedL t) (hturn _ _).1, congrArg (· + feedR t) (hturn _ _).2⟩
    · exact hturn _ _

/-- The drawn words at a place are the draw of the place's counter. -/
theorem draw_at {S : Shape} (n : IVec S 32) (i : S.Idx) : xori (cipher n 20).1 (cipher n 20).2 i = draw (n i) := by
  have h := cipher_at n (T := ⟨0, ![]⟩) (fun _ => n i) i (fun a => a.elim0) rfl 20
  show IntOp.xori _ _ = IntOp.xori _ _
  rw [h.1, h.2]

/-- The fraction in [0, 1) that a word's upper 23 bits spell. -/
def fractionOf (w : BitVec 32) : EReal := Ideal.ofBits .f32 ((w >>> 9) ||| 1065353216#32) - 1

/-- The noise of a word. -/
def noiseOf (w : BitVec 32) : EReal :=
  -(Ideal.log (-(Ideal.log (max (Ideal.ofBits .f32 0x00800000#32) (fractionOf w + Ideal.ofBits .f32 0x00800000#32)))))

/-- The fraction is a real number, at least 0 and less than 1. -/
theorem fraction_real (w : BitVec 32) : ∃ r : ℝ, fractionOf w = r ∧ 0 ≤ r ∧ r ≤ 1 - 2 ^ (-23 : ℤ) := by
  have hw : (w >>> 9).toNat < 2 ^ 23 := by
    have := w.isLt
    simp [BitVec.toNat_ushiftRight, Nat.shiftRight_eq_div_pow]; omega
  generalize hv : w >>> 9 = v at hw
  have hor : (v ||| 1065353216#32).toNat = 2 ^ 23 * 127 + v.toNat := by
    rw [Nat.two_pow_add_eq_or_of_lt hw, BitVec.toNat_or, Nat.or_comm]; rfl
  have hfr : ((v ||| 1065353216#32).extractLsb' 0 23).toNat = v.toNat := by
    rw [BitVec.extractLsb'_toNat, hor]; omega
  have hex : ((v ||| 1065353216#32).extractLsb' 23 8).toNat = 127 := by
    rw [BitVec.extractLsb'_toNat, hor, Nat.shiftRight_eq_div_pow]; omega
  have hsg : ((v ||| 1065353216#32).extractLsb' 31 1) = 0#1 := by
    apply BitVec.eq_of_toNat_eq
    rw [BitVec.extractLsb'_toNat, hor, Nat.shiftRight_eq_div_pow]; simp; omega
  have hval : Ideal.ofBits .f32 (v ||| 1065353216#32) = ((1 + v.toNat * 2 ^ (-23 : ℤ) : ℝ) : EReal) := by
    simp only [Ideal.ofBits, Ideal.ieee, hfr, hex, hsg]
    norm_num [-EReal.coe_mul, -EReal.coe_add]
    ring_nf
  refine ⟨v.toNat * 2 ^ (-23 : ℤ), ?_, by positivity, ?_⟩
  · unfold fractionOf
    rw [hv, hval, ← EReal.coe_one, ← EReal.coe_sub]
    congr 1; ring
  · have hle : (v.toNat : ℝ) ≤ 2 ^ 23 - 1 := by
      have : v.toNat + 1 ≤ 2 ^ 23 := hw
      have : (v.toNat : ℝ) + 1 ≤ 2 ^ 23 := by exact_mod_cast this
      linarith
    calc (v.toNat : ℝ) * 2 ^ (-23 : ℤ) ≤ (2 ^ 23 - 1) * 2 ^ (-23 : ℤ) := by gcongr
      _ = 1 - 2 ^ (-23 : ℤ) := by norm_num

/-- The smallest normal number is positive and below the fractions' spacing. -/
theorem tiny_real : ∃ e : ℝ, Ideal.ofBits .f32 0x00800000#32 = e ∧ 0 < e ∧ e < 2 ^ (-23 : ℤ) := by
  refine ⟨2 ^ (-126 : ℤ), ?_, ?_, ?_⟩
  · simp [Ideal.ofBits, Ideal.ieee, -EReal.coe_mul]
    norm_num
  · positivity
  · exact zpow_lt_zpow_right₀ (by norm_num) (by norm_num)

/-- The noise is a real number. -/
theorem noise_real (w : BitVec 32) : ∃ g : ℝ, noiseOf w = g := by
  obtain ⟨r, hr, h0, h1⟩ := fraction_real w
  obtain ⟨e, he, e0, e1⟩ := tiny_real
  unfold noiseOf
  rw [hr, he, ← EReal.coe_add, max_eq_right (EReal.coe_le_coe_iff.mpr (by linarith))]
  have u0 : 0 < r + e := by linarith
  have u1 : r + e < 1 := by linarith
  have hlog : Ideal.log ((r + e : ℝ) : EReal) = (Real.log (r + e) : ℝ) := if_neg (not_le.mpr u0)
  have hneg : 0 < -Real.log (r + e) := neg_pos.mpr (Real.log_neg u0 u1)
  rw [hlog, ← EReal.coe_neg]
  have hlog2 : Ideal.log ((-Real.log (r + e) : ℝ) : EReal) = (Real.log (-Real.log (r + e)) : ℝ) := if_neg (not_le.mpr hneg)
  rw [hlog2, ← EReal.coe_neg]
  exact ⟨_, rfl⟩

end Cert.Noise

end
-- ==== Proof.RefDraw.lean ====
module

public import proofs.«01_k».proof.Proof.RefRun
public import proofs.«01_k».proof.Proof.Noise
public import Idealize.ShloMosaic.Lib.StableHlo.Run
public import Idealize.ShloMosaic.Lib.Pointwise

@[expose] public section

set_option maxRecDepth 65536
set_option maxHeartbeats 2000000

noncomputable section

/-!
# The reference's draws and logits

The reference's key is (0, 42), its counters are the places' row-major numbers, and its words are the cipher of them. The
logits are the argument plus the noise of those words.
-/

namespace Cert.ReferenceIdeal.Own

open Idealize.ShloMosaic Idealize.ShloMosaic.TcCoe Idealize.SL.Sem Cert.ReferenceIdeal Cert.ReferenceIdeal.Gen Cert.HostLine Cert.Noise

variable {F : FTy → Type} [FloatOps F]

/-- The two key words: 0 and 42. -/
theorem keys (d : Dev nD) (W : Valuation τ sig (Elt F)) (h : (refLine (F := F) d).1 W) :
    main_call0.v5.ofBuf (W (Proc.devRef .tc main_call0.v5.ref)) = constantI S_ 32 0#32 ∧
      main_call0.v7.ofBuf (W (Proc.devRef .tc main_call0.v7.ref)) = constantI S_ 32 42#32 := by
  simp only [refLine] at h
  have h2 : W (Proc.devRef .tc main_v2) = fun _ => 0#32 := by
    simp only [h]; rfl
  have h5 : W (Proc.devRef .tc main_v5) = fun _ => 42#32 := by
    simp only [h]; clear h; funext j; show IntOp.andi 42#32 4294967295#32 = _; decide
  simp only [main_call0, h, StableHlo.TRef.ofBuf_toBuf]
  clear h
  generalize W (Proc.devRef .tc main_v2) = a at *
  generalize W (Proc.devRef .tc main_v5) = b at *
  subst h2 h5
  simp only [StableHlo.TRef.ofBuf, StableHlo.TRef.toBuf, cast_eq]
  constructor <;> funext j <;> pointwise

/-- The upper counter word is 0 at every place. -/
theorem hi (d : Dev nD) (W : Valuation τ sig (Elt F)) (h : (refLine (F := F) d).1 W) :
   main_call0.v26.ofBuf (W (Proc.devRef .tc main_call0.v26.ref)) = broadcast S16x1024x32x32 0#32 := by
  simp only [refLine] at h
  simp only [main_call0, h, StableHlo.TRef.ofBuf_toBuf]
  clear h
  funext j
  have h0 : (j 0).val < 16 := (j 0).isLt
  have h1 : (j 1).val < 1024 := (j 1).isLt
  have h2 : (j 2).val < 32 := (j 2).isLt
  have h3 : (j 3).val < 32 := (j 3).isLt
  pointwise
  simp only [IntOp.addi, IntOp.muli]
  rw [show (1048576#64 * BitVec.ofNat 64 (j 0).val + 1024#64 * BitVec.ofNat 64 (j 1).val + 32#64 * BitVec.ofNat 64 (j 2).val + 1#64 * BitVec.ofNat 64 (j 3).val) = BitVec.ofNat 64 ((j 0).val * 1048576 + (j 1).val * 1024 + (j 2).val * 32 + (j 3).val) from by
    apply BitVec.eq_of_toNat_eq; simp; omega]
  generalize hn : (j 0).val * 1048576 + (j 1).val * 1024 + (j 2).val * 32 + (j 3).val = n
  have : n < 2 ^ 24 := by omega
  show BitVec.setWidth 32 (BitVec.ofNat 64 n >>> (32#64)) = _
  apply BitVec.eq_of_toNat_eq
  simp [Nat.shiftRight_eq_div_pow]
  omega
/-- A place's row-major number. -/
def count (j : S16x1024x32x32.Idx) : ℕ := (j 0).val * 1048576 + (j 1).val * 1024 + (j 2).val * 32 + (j 3).val

/-- The lower counter word is the place's row-major number. -/
theorem lo (d : Dev nD) (W : Valuation τ sig (Elt F)) (h : (refLine (F := F) d).1 W) (j) :
   main_call0.v25.ofBuf (W (Proc.devRef .tc main_call0.v25.ref)) j = BitVec.ofNat 32 (count j) := by
  simp only [refLine] at h
  simp only [main_call0, h, StableHlo.TRef.ofBuf_toBuf]
  clear h
  have h0 : (j 0).val < 16 := (j 0).isLt
  have h1 : (j 1).val < 1024 := (j 1).isLt
  have h2 : (j 2).val < 32 := (j 2).isLt
  have h3 : (j 3).val < 32 := (j 3).isLt
  pointwise
  simp only [IntOp.addi, IntOp.muli, count]
  apply BitVec.eq_of_toNat_eq; simp; omega

section host
variable {S : Shape}

/-- A broadcast constant. -/
theorem bcast_const {e : Fin S_.rank → Fin S.rank} {h : S_.BroadcastsInDim S e} (c : BitVec 32) :
    broadcastInDim (α := BitVec 32) S e h (constantI S_ 32 c) = broadcast S c := rfl

/-- The exclusive or of constants. -/
theorem xor_const (a b : BitVec 32) : xori (constantI S 32 a) (constantI S 32 b) = constantI S 32 (a ^^^ b) := rfl

/-- Two constants added in turn are their sum added. -/
theorem add_add_const (x : IVec S 32) (a b : BitVec 32) : addi (addi x (broadcast S a)) (broadcast S b) = addi x (broadcast S (a + b)) :=
  funext fun j => BitVec.add_assoc (x j) a b

/-- A left shift by less than the word size is the same on the host. -/
theorem host_shl (x : IVec S 32) (r : BitVec 32) (hr : r.toNat < 32) : Host.shli x (broadcast S r) = shli x (broadcast S r) := by
  funext j
  show (if r.toNat < 32 then _ else _) = (if r.toNat < 32 then _ else _)
  rw [if_pos hr, if_pos hr]

/-- A right shift by less than the word size is the same on the host. -/
theorem host_shr (x : IVec S 32) (r : BitVec 32) (hr : r.toNat < 32) : Host.shrui x (broadcast S r) = shrui x (broadcast S r) := by
  funext j
  show (if r.toNat < 32 then _ else _) = (if r.toNat < 32 then _ else _)
  rw [if_pos hr, if_pos hr]

end host

open Cert.Cipher in
/-- The drawn words are the cipher of the counters. -/
theorem ref_words (d : Dev nD) (W : Valuation τ sig (Elt F)) (h : (refLine (F := F) d).1 W) :
   main_call0.v28.ofBuf (W (Proc.devRef .tc main_call0.v28.ref)) =
     xori (cipher (main_call0.v25.ofBuf (W (Proc.devRef .tc main_call0.v25.ref))) 20).1
       (cipher (main_call0.v25.ofBuf (W (Proc.devRef .tc main_call0.v25.ref))) 20).2 := by
  have hk := keys d W h
  have hh := hi d W h
  generalize hN : main_call0.v25.ofBuf (W (Proc.devRef .tc main_call0.v25.ref)) = N
  simp only [refLine] at h
  simp only [main_call0] at hk hh hN ⊢
  simp -implicitDefEqProofs (disch := decide) only [↓hN, ↓hk, ↓hh, h, StableHlo.TRef.ofBuf_toBuf, bcast_const, xor_const, add_add_const, host_shl, host_shr,
    BitVec.reduceXOr, BitVec.reduceAdd, fold_first, fold_second, fold_add, fold_xor, fold_feed, fold_feed_xor, Nat.reduceAdd]

/-- The argument's array, read as extended reals. -/
def argument (W : Valuation τ sig (Elt Ideal)) : S16x1024x32x32.Idx → EReal := W (Proc.devRef .tc main_arg0)

/-- The logits' array. -/
def logits (W : Valuation τ sig (Elt Ideal)) : S16x1024x32x32.Idx → EReal := W (Proc.devRef .tc main_v20)

/-- The logits: the argument plus the noise of the place's counter. -/
theorem ref_logits (d : Dev nD) (W : Valuation τ sig (Elt Ideal)) (h : (refLine (F := Ideal) d).1 W) (j : S16x1024x32x32.Idx) :
    logits W j = argument W j + noiseOf (draw (BitVec.ofNat 32 (count j))) := by
  have hw : main_call0.v28.ofBuf (W (Proc.devRef .tc main_call0.v28.ref)) j = draw (BitVec.ofNat 32 (count j)) := by
    rw [ref_words d W h, draw_at, lo d W h]
  generalize hN : main_call0.v28.ofBuf (W (Proc.devRef .tc main_call0.v28.ref)) = N at hw
  unfold logits argument
  generalize hA : W (Proc.devRef .tc main_arg0) = A
  simp only [refLine] at h
  simp only [main_call0] at hN
  simp only [↓hN, ↓hA, h, StableHlo.TRef.ofBuf_toBuf]
  clear h
  obtain ⟨f, hf, hf0, -⟩ := fraction_real (draw (BitVec.ofNat 32 (count j)))
  have hd : fractionOf (N j) = f := hw ▸ hf
  have one : Ideal.ofBits .f32 0x3F800000#32 = 1 := Ideal.ofBits_one_f32
  have zero : Ideal.ofBits .f32 0x00000000#32 = 0 := by simp [Ideal.ofBits, Ideal.ieee]
  rw [← hw]
  simp only [StableHlo.TRef.ofBuf, StableHlo.TRef.toBuf, cast_eq, id]
  show Ideal.div ((show EReal from A j) + -(Ideal.log (-(Ideal.log (max (Ideal.ofBits .f32 0x00800000#32) (max (Ideal.ofBits .f32 0x00000000#32)
    ((Ideal.ofBits .f32 ((N j >>> 9) ||| 1065353216#32) - Ideal.ofBits .f32 0x3F800000#32) *
      (Ideal.ofBits .f32 0x3F800000#32 - Ideal.ofBits .f32 0x00000000#32) + Ideal.ofBits .f32 0x00000000#32) *
      Ideal.ofBits .f32 0x3F800000#32 + Ideal.ofBits .f32 0x00800000#32)))))) (Ideal.ofBits .f32 0x3F800000#32) = _
  rw [one, zero]
  unfold noiseOf
  rw [show Ideal.ofBits .f32 ((N j >>> 9) ||| 1065353216#32) - 1 = fractionOf (N j) from rfl, hd]
  have hmax : max (0 : EReal) (f * (1 - 0) + 0) = f := by
    rw [sub_zero, mul_one, add_zero]; exact max_eq_right (EReal.coe_nonneg.mpr hf0)
  have hone : ∀ x : EReal, Ideal.div x 1 = x := by
    intro x; rw [Ideal.div, if_neg one_ne_zero, inv_one, mul_one]
  rw [hmax, mul_one, hone]

end Cert.ReferenceIdeal.Own

end
-- ==== Proof.Folds.lean ====
module

public import Mathlib.Data.EReal.Basic
public import Mathlib.Data.Fintype.EquivFin
public import Mathlib.Data.Fintype.Lattice
public import Mathlib.Data.Finset.Max

@[expose] public section

/-!
# Folds that one element decides, and the first greatest row

The maximum, the least index and the argmax of both programs are left folds. Each is decided by one element that
absorbs all the others, whatever the order they come in.
-/

namespace Cert.Folds

/-- A fold whose operation returns one of its two arguments, over a list that holds `p`, ends at `p` when `p` absorbs every element and the start. -/
theorem foldl_absorb {α : Type} (f : α → α → α) (p e : α) (l : List α) (hf : ∀ a b, f a b = a ∨ f a b = b)
    (hp : ∀ q, q = e ∨ q ∈ l → f q p = p ∧ f p q = p) (hl : p ∈ l) : l.foldl f e = p := by
  have keep : ∀ l : List α, (∀ q ∈ l, f p q = p) → l.foldl f p = p := by
    intro l
    induction l with
    | nil => intro _; rfl
    | cons a l ih =>
      intro h
      rw [List.foldl_cons, h a List.mem_cons_self]
      exact ih fun q hq => h q (List.mem_cons_of_mem _ hq)
  induction l generalizing e with
  | nil => exact absurd hl List.not_mem_nil
  | cons a l ih =>
    rw [List.foldl_cons]
    by_cases ha : a = p
    · subst ha
      rw [(hp e (Or.inl rfl)).1]
      exact keep l fun q hq => (hp q (Or.inr (List.mem_cons_of_mem _ hq))).2
    · have hl' : p ∈ l := by
        rcases List.mem_cons.mp hl with h | h
        · exact absurd h.symm ha
        · exact h
      refine ih (f e a) (fun q hq => hp q ?_) hl'
      rcases hq with rfl | hq
      · rcases hf e a with h | h
        · rw [h]; exact Or.inl rfl
        · rw [h]; exact Or.inr List.mem_cons_self
      · exact Or.inr (List.mem_cons_of_mem _ hq)

/-- Row `r` holds the greatest value, and no earlier row holds it. -/
def First {n : ℕ} (f : Fin n → EReal) (r : Fin n) : Prop := (∀ s, f s ≤ f r) ∧ ∀ s, s < r → f s < f r

/-- Some row is the first greatest. -/
theorem exists_first {n : ℕ} [NeZero n] (f : Fin n → EReal) : ∃ r, First f r := by
  obtain ⟨m, hm⟩ := Finite.exists_max f
  have hne : (Finset.univ.filter fun s => f s = f m).Nonempty := ⟨m, by simp⟩
  obtain ⟨r, hr, hmin⟩ := Finset.exists_min_image _ id hne
  have hr' : f r = f m := by simpa using hr
  refine ⟨r, fun s => hr' ▸ hm s, fun s hs => lt_of_le_of_ne (hr' ▸ hm s) fun h => ?_⟩
  exact absurd (hmin s (by simp [h, hr'])) (not_le.mpr hs)

/-- A strictly increasing change of the values keeps the first greatest row. -/
theorem First.mono {n : ℕ} {f g : Fin n → EReal} {r : Fin n} (h : First f r) (hg : ∀ s t, f s < f t → g s < g t)
    (he : ∀ s t, f s = f t → g s = g t) : First g r :=
  ⟨fun s => (h.1 s).lt_or_eq.elim (fun l => (hg s r l).le) fun e => (he s r e).le, fun s hs => hg s r (h.2 s hs)⟩

end Cert.Folds
-- ==== Proof.HostReduce.lean ====
module

public import proofs.«01_k».proof.Proof.Folds
public import proofs.«01_k».proof.ReferenceIdeal
public import Idealize.ShloMosaic.Lib.IdealHost
public import Idealize.ShloMosaic.PureOps.Ideal.Laws
public import Idealize.ShloMosaic.PureOps.Reduce

@[expose] public section

noncomputable section

/-!
# The reference's three reductions

The maximum of a column is its greatest element. The sum of real numbers, none negative and one positive, is positive
and real. The argmax is the index that the greatest value first has.
-/

namespace Cert.HostReduce

open Idealize.ShloMosaic Cert.Folds

variable {s t u : Shape} {axes : List (Fin s.rank)} (h : s.ReducesTo axes t) (hu : 0 < u.numel)

/-- The maximum of a column is the element that no other of the column exceeds. -/
theorem max_eq (x : s.Idx → EReal) (init : u.Idx → EReal) (hi : init (Shape.Idx.first hu) = ⊥) (i : s.Idx)
    (hx : ∀ k, h.drop k = h.drop i → x k ≤ x i) :
    Host.reduce (FloatOps.maximumf (F := Ideal) (φ := .f32)) x init h hu (h.drop i) = x i := by
  rw [Host.reduce_eq_foldl, hi]
  have hmem : i ∈ (((List.finRange s.numel).map s.rowMajor.symm).filter fun k => h.drop k = h.drop i) := by
    simp only [List.mem_filter, List.mem_map, List.mem_finRange, true_and, decide_true, and_true]
    exact ⟨s.rowMajor i, Equiv.symm_apply_apply _ _⟩
  have hall : ∀ k ∈ (((List.finRange s.numel).map s.rowMajor.symm).filter fun k => h.drop k = h.drop i), x k ≤ x i :=
    fun k hk => hx k (of_decide_eq_true (List.mem_filter.mp hk).2)
  generalize (((List.finRange s.numel).map s.rowMajor.symm).filter fun k => h.drop k = h.drop i) = l at hmem hall
  have e : l.foldl (fun r i => FloatOps.maximumf (F := Ideal) (φ := .f32) r (x i)) ⊥ = (l.map x).foldl max ⊥ := by
    rw [List.foldl_map]; rfl
  rw [e]
  refine foldl_absorb max _ _ _ (fun a b => (le_total a b).symm.imp max_eq_left max_eq_right) ?_ (List.mem_map_of_mem hmem)
  rintro q (rfl | hq)
  · exact ⟨max_eq_right bot_le, max_eq_left bot_le⟩
  · obtain ⟨k, hk, rfl⟩ := List.mem_map.mp hq
    exact ⟨max_eq_right (hall k hk), max_eq_left (hall k hk)⟩

/-- The sum of a column of real numbers, none negative and one of them positive, is real and positive. -/
theorem sum_pos (x : s.Idx → EReal) (r : s.Idx → ℝ) (i : s.Idx) (hx : ∀ k, h.drop k = h.drop i → x k = r k) (hr : ∀ k, 0 ≤ r k)
    (hp : 0 < r i) (init : u.Idx → EReal) (hi : init (Shape.Idx.first hu) = 0) :
    ∃ m : ℝ, 0 < m ∧ Host.reduceAdd (F := Ideal) (φ := .f32) x init h hu (h.drop i) = m := by
  have e : Host.reduceAdd (F := Ideal) (φ := .f32) x init h hu (h.drop i) =
      init (Shape.Idx.first hu) + ∑ k ∈ Finset.univ.filter (fun k => h.drop k = h.drop i), x k := rfl
  rw [e, hi, zero_add]
  refine ⟨∑ k ∈ Finset.univ.filter (fun k => h.drop k = h.drop i), r k, ?_, ?_⟩
  · exact Finset.sum_pos' (fun k _ => hr k) ⟨i, by simp, hp⟩
  · have hc : ∀ A : Finset s.Idx, ((∑ k ∈ A, r k : ℝ) : EReal) = ∑ k ∈ A, (r k : EReal) := by
      intro A
      induction A using Finset.cons_induction with
      | empty => simp
      | cons a A ha ih => rw [Finset.sum_cons, Finset.sum_cons, EReal.coe_add, ih]
    rw [hc]
    exact Finset.sum_congr rfl fun k hk => hx k (by simpa using hk)

/-- The pair that the argmax's body keeps of two. -/
theorem reducer_eq (a b : EReal × BitVec 32) :
    ReferenceIdeal.reducer_argmax_f32_i32 (F := Ideal) a b = if b.1 < a.1 ∨ (a.1 = b.1 ∧ a.2.slt b.2) then a else b := by
  obtain ⟨x, i⟩ := a
  obtain ⟨y, j⟩ := b
  show (Scalar.select (IntOp.ori (BitVec.ofBool (decide (y < x))) (BitVec.ofBool (decide (x ≠ x)))) x y,
    Scalar.select (IntOp.ori (IntOp.ori (BitVec.ofBool (decide (y < x))) (BitVec.ofBool (decide (x ≠ x))))
      (IntOp.andi (BitVec.ofBool (decide (x = y))) (BitVec.ofBool (i.slt j)))) i j) = _
  have hxx : decide (x ≠ x) = false := by simp
  rw [hxx]
  by_cases h1 : y < x
  · rw [decide_eq_true h1, if_pos (Or.inl h1)]
    by_cases h2 : x = y
    · exact absurd h2 h1.ne'
    · rw [decide_eq_false h2]; cases i.slt j <;> rfl
  · rw [decide_eq_false h1]
    by_cases h2 : x = y
    · subst h2
      rw [decide_eq_true rfl]
      cases hs : i.slt j
      · rw [if_neg (by simp [hs])]; rfl
      · rw [if_pos (by simp [hs])]; rfl
    · rw [decide_eq_false h2, if_neg (by simp [h1, h2])]; cases i.slt j <;> rfl

/-- The index of the first greatest element along an axis, its elements numbered by `y`. -/
def firstOf (x : s.Idx → EReal) (y : s.Idx → BitVec 32) (init : u.Idx → EReal) (inity : u.Idx → BitVec 32) : t.Idx → BitVec 32 := fun k =>
  (Host.argReduce (F := Ideal) (φ := .f32) ReferenceIdeal.reducer_argmax_f32_i32 x y init inity h hu k).2

/-- The argmax along an axis is the index of the element that beats every other of its column. -/
theorem argmax_eq (x : s.Idx → EReal) (y : s.Idx → BitVec 32) (init : u.Idx → EReal) (inity : u.Idx → BitVec 32)
    (hi : init (Shape.Idx.first hu) = ⊥) (i : s.Idx) (hb : ⊥ < x i)
    (hbeat : ∀ k, h.drop k = h.drop i → k = i ∨ x k < x i ∨ (x k = x i ∧ (y i).slt (y k) = true)) :
    firstOf h hu x y init inity (h.drop i) = y i := by
  unfold firstOf
  rw [Ideal.argReduce_eq_reduce2, Host.reduce2_eq_foldl_fiber, hi]
  have key : (Host.argReduceFiber x y h (h.drop i)).foldl (ReferenceIdeal.reducer_argmax_f32_i32 (F := Ideal)) (⊥, inity (Shape.Idx.first hu)) = (x i, y i) := by
    apply foldl_absorb
    · intro a b
      rw [reducer_eq]; split
      · exact Or.inl rfl
      · exact Or.inr rfl
    · have main : ∀ q : EReal × BitVec 32, q = (x i, y i) ∨ q.1 < x i ∨ (q.1 = x i ∧ (y i).slt q.2 = true) →
          ReferenceIdeal.reducer_argmax_f32_i32 (F := Ideal) q (x i, y i) = (x i, y i) ∧
          ReferenceIdeal.reducer_argmax_f32_i32 (F := Ideal) (x i, y i) q = (x i, y i) := by
        intro q hq
        rw [reducer_eq, reducer_eq]
        rcases hq with rfl | hq | ⟨hq, hq2⟩
        · simp
        · exact ⟨if_neg (by rintro (g | g); exacts [lt_asymm hq g, hq.ne g.1]), if_pos (Or.inl hq)⟩
        · refine ⟨if_neg ?_, if_pos (Or.inr ⟨hq.symm, hq2⟩)⟩
          rintro (g | g)
          · exact absurd hq g.ne'
          · have := g.2
            simp only [BitVec.slt, decide_eq_true_eq] at this hq2
            omega
      intro q hq
      apply main
      rcases hq with rfl | hq
      · exact Or.inr (Or.inl hb)
      · obtain ⟨n, hn, rfl⟩ := List.mem_map.mp hq
        have hd := of_decide_eq_true (List.mem_filter.mp hn).2
        rcases hbeat _ hd with g | g
        · left; rw [g]
        · exact Or.inr g
    · refine List.mem_map.mpr ⟨s.rowMajor i, List.mem_filter.mpr ⟨List.mem_finRange _, ?_⟩, ?_⟩
      · simp
      · simp
  exact congrArg Prod.snd key

end Cert.HostReduce

end
-- ==== Proof.RefValue.lean ====
module

public import proofs.«01_k».proof.Proof.RefDraw
public import proofs.«01_k».proof.Proof.HostReduce

@[expose] public section

set_option maxRecDepth 65536
set_option maxHeartbeats 2000000

noncomputable section

/-!
# The reference's softmax, argmax and result, written out
-/

namespace Cert.ReferenceIdeal.Own

open Idealize.ShloMosaic Idealize.ShloMosaic.TcCoe Idealize.SL.Sem Cert.ReferenceIdeal Cert.ReferenceIdeal.Gen Cert.HostLine Cert.Noise Cert.Folds
open Cert.HostReduce

/-- A place's column: its coordinates but for the row. -/
abbrev colOf (j : S16x1024x32x32.Idx) : S16x32x32.Idx := reducesTo_S16x1024x32x32_S16x32x32_d1.drop j

/-- The greatest of each column. -/
def tops (x : S16x1024x32x32.Idx → EReal) : S16x32x32.Idx → EReal :=
  Host.reduce (FloatOps.maximumf (F := Ideal) (φ := .f32)) x (constant (F := Ideal) S_ .f32 0xFF800000#32)
    reducesTo_S16x1024x32x32_S16x32x32_d1 h_S_

/-- The sum of each column. -/
def sums (x : S16x1024x32x32.Idx → EReal) : S16x32x32.Idx → EReal :=
  Host.reduceAdd (F := Ideal) (φ := .f32) x (constant (F := Ideal) S_ .f32 0x00000000#32)
    reducesTo_S16x1024x32x32_S16x32x32_d1 h_S_

/-- A number per column, read at each of the column's places. -/
def spread (x : S16x32x32.Idx → EReal) : S16x1024x32x32.Idx → EReal :=
  broadcastInDim S16x1024x32x32 ![0, 1, 2, 3] bcast_S16x1x32x32_S16x1024x32x32_0_1_2_3
    (broadcastInDim S16x1x32x32 ![0, 2, 3] bcast_S16x32x32_S16x1x32x32_0_2_3 x)

/-- The index of the first greatest of each column. -/
def firsts (x : S16x1024x32x32.Idx → EReal) : S16x32x32.Idx → BitVec 32 :=
  firstOf reducesTo_S16x1024x32x32_S16x32x32_d1 h_S_ x (iotaInDim S16x1024x32x32 32 1) (constant (F := Ideal) S_ .f32 0xFF800000#32)
    (constantI S_ 32 0#32)

/-- The exponentials of the logits less their column's greatest. -/
def powers (x : S16x1024x32x32.Idx → EReal) : S16x1024x32x32.Idx → EReal :=
  Host.exp (F := Ideal) (φ := .f32) (subf (F := Ideal) (φ := .f32) x
    (spread (maximumf (F := Ideal) (φ := .f32) (broadcastInDim S16x32x32 ![] bcast_S_S16x32x32 (constant (F := Ideal) S_ .f32 0xFF800000#32)) (tops x))))

/-- The softmax's array. -/
def soft (W : Valuation τ sig (Elt Ideal)) : S16x1024x32x32.Idx → EReal := W (Proc.devRef .tc main_v31)

/-- The argmax's array. -/
def pick (W : Valuation τ sig (Elt Ideal)) : S16x32x32.Idx → BitVec 32 := W (Proc.devRef .tc main_v32)

/-- The result's array. -/
def out (W : Valuation τ sig (Elt Ideal)) : S16x1024x32x32.Idx → EReal := W (Proc.devRef .tc main_v36)

variable (d : Dev nD) (W : Valuation τ sig (Elt Ideal)) (h : (refLine (F := Ideal) d).1 W)
include h

/-- The softmax, written out. -/
theorem soft_eq : soft W = Host.divf (F := Ideal) (φ := .f32) (powers (logits W)) (spread (sums (powers (logits W)))) := by
  unfold soft logits
  generalize hL : W (Proc.devRef .tc main_v20) = L
  simp only [refLine] at h
  simp only [↓hL, h]
  rfl

/-- The argmax, written out. -/
theorem pick_eq : pick W = firsts (soft W) := by
  unfold soft pick
  generalize hL : W (Proc.devRef .tc main_v31) = L
  simp only [refLine] at h
  simp -implicitDefEqProofs only [↓hL, h, StableHlo.TRef.ofBuf, StableHlo.TRef.toBuf, cast_eq]
  rfl

/-- The result, written out. -/
theorem out_eq : out W = addf (F := Ideal) (φ := .f32) (subf (F := Ideal) (φ := .f32)
    (transpose S16x1024x32x32 [0, 3, 1, 2] (uitofp (F := Ideal) .f32 (cmpi .eq
      (broadcastInDim S16x32x32x1024 ![0, 1, 2, 3] bcast_S16x32x32x1_S16x32x32x1024_0_1_2_3
        (broadcastInDim S16x32x32x1 ![0, 1, 2] bcast_S16x32x32_S16x32x32x1_0_1_2 (pick W)))
      (broadcastInDim S16x32x32x1024 ![0, 1, 2, 3] bcast_S1x1x1x1024_S16x32x32x1024_0_1_2_3 (iotaInDim S1x1x1x1024 32 3))))
      transposes_S16x32x32x1024_S16x1024x32x32_0_3_1_2) (soft W)) (soft W) := by
  unfold soft pick out
  generalize hL : W (Proc.devRef .tc main_v31) = L
  generalize hI : W (Proc.devRef .tc main_v32) = I
  simp only [refLine] at h
  simp -implicitDefEqProofs only [↓hL, ↓hI, h, StableHlo.TRef.ofBuf, StableHlo.TRef.toBuf, cast_eq]

end Cert.ReferenceIdeal.Own

end
-- ==== Proof.RefColumn.lean ====
module

public import proofs.«01_k».proof.Proof.RefValue

@[expose] public section

set_option maxRecDepth 65536
set_option maxHeartbeats 2000000

noncomputable section

/-!
# The reference's result at an index

Where a column's greatest logit is a real number, the reference's result is 1 at the first row of the column that holds
it, and 0 elsewhere.
-/

namespace Cert.ReferenceIdeal.Own

open Idealize.ShloMosaic Idealize.ShloMosaic.TcCoe Idealize.SL.Sem Cert.ReferenceIdeal Cert.ReferenceIdeal.Gen Cert.HostLine Cert.Noise Cert.Folds
open Cert.HostReduce

/-- The coordinates of a place's column. -/
theorem colOf_val (j : S16x1024x32x32.Idx) :
    (colOf j 0 : ℕ) = j 0 ∧ (colOf j 1 : ℕ) = j 2 ∧ (colOf j 2 : ℕ) = j 3 :=
  ⟨reducesTo_S16x1024x32x32_S16x32x32_d1.drop_apply_val_of_eq j 0 0, reducesTo_S16x1024x32x32_S16x32x32_d1.drop_apply_val_of_eq j 1 2,
    reducesTo_S16x1024x32x32_S16x32x32_d1.drop_apply_val_of_eq j 2 3⟩

/-- A column is known by its coordinates. -/
theorem eq_colOf (j : S16x1024x32x32.Idx) (k : S16x32x32.Idx) (h0 : (k 0 : ℕ) = j 0) (h1 : (k 1 : ℕ) = j 2) (h2 : (k 2 : ℕ) = j 3) :
    k = colOf j := by
  obtain ⟨c0, c1, c2⟩ := colOf_val j
  funext a
  apply Fin.ext
  match a with
  | ⟨0, _⟩ => exact h0.trans c0.symm
  | ⟨1, _⟩ => exact h1.trans c1.symm
  | ⟨2, _⟩ => exact h2.trans c2.symm

/-- The place of a column at a row. -/
def atRow (j : S16x1024x32x32.Idx) (c : Fin 1024) : S16x1024x32x32.Idx := Function.update j 1 c

/-- Every row of a column is in the column. -/
theorem colOf_atRow (j : S16x1024x32x32.Idx) (c : Fin 1024) : colOf (atRow j c) = colOf j := by
  obtain ⟨c0, c1, c2⟩ := colOf_val (atRow j c)
  exact eq_colOf j _ c0 c1 c2

/-- A place of the column is the column at its row. -/
theorem atRow_of_colOf (j k : S16x1024x32x32.Idx) (e : colOf k = colOf j) : k = atRow j (k 1) := by
  obtain ⟨c0, c1, c2⟩ := colOf_val k
  rw [e] at c0 c1 c2
  obtain ⟨d0, d1, d2⟩ := colOf_val j
  funext a
  apply Fin.ext
  match a with
  | ⟨0, _⟩ => exact c0.symm.trans d0
  | ⟨1, _⟩ => rfl
  | ⟨2, _⟩ => exact c1.symm.trans d1
  | ⟨3, _⟩ => exact c2.symm.trans d2

/-- The spread at a place reads the place's column. -/
theorem spread_apply (x : S16x32x32.Idx → EReal) (j : S16x1024x32x32.Idx) : spread x j = x (colOf j) := by
  unfold spread
  pointwise
  exact congrArg x (eq_colOf j _ rfl rfl rfl)

/-- The maximum starts at −∞. -/
theorem bot_const (i : S_.Idx) : constant (F := Ideal) S_ .f32 0xFF800000#32 i = (⊥ : EReal) := by
  show Ideal.ofBits .f32 0xFF800000#32 = ⊥
  simp [Ideal.ofBits, Ideal.ieee]

/-- The sum starts at 0. -/
theorem zero_const (i : S_.Idx) : constant (F := Ideal) S_ .f32 0x00000000#32 i = (0 : EReal) := by
  show Ideal.ofBits .f32 0x00000000#32 = 0
  simp [Ideal.ofBits, Ideal.ieee]

/-- The maximum of a column is its first greatest row's number. -/
theorem tops_eq (x : S16x1024x32x32.Idx → EReal) (j : S16x1024x32x32.Idx) (r : Fin 1024) (hr : First (fun c => x (atRow j c)) r) :
    tops x (colOf j) = x (atRow j r) := by
  unfold tops
  rw [← colOf_atRow j r]
  refine max_eq _ _ x _ (bot_const _) (atRow j r) fun k hk => ?_
  rw [atRow_of_colOf j k (hk.trans (colOf_atRow j r))]
  exact hr.1 _

/-- The sum of a column of real numbers, none negative and one of them positive, is positive and real. -/
theorem sums_real (x : S16x1024x32x32.Idx → EReal) (p : S16x1024x32x32.Idx → ℝ) (j : S16x1024x32x32.Idx) (r : Fin 1024)
    (hx : ∀ k, colOf k = colOf j → x k = p k) (hp : ∀ k, 0 ≤ p k) (hr : 0 < p (atRow j r)) : ∃ t : ℝ, 0 < t ∧ sums x (colOf j) = t := by
  unfold sums
  rw [← colOf_atRow j r]
  exact sum_pos _ _ x p (atRow j r) (fun k hk => hx k (hk.trans (colOf_atRow j r))) hp hr _ (zero_const _)

/-- A broadcast of −∞ is −∞ at every place. -/
theorem bcast_bot {s t : Shape} {e} {hb} (A : s.Idx → EReal) (hA : ∀ i, A i = ⊥) (k : t.Idx) : broadcastInDim t e hb A k = (⊥ : EReal) := hA _

/-- The maximum with −∞ is the other number. -/
theorem max_bot_apply {s : Shape} (A T : s.Idx → EReal) (k : s.Idx) (hA : A k = ⊥) : maximumf (F := Ideal) (φ := .f32) A T k = T k := by
  show max (A k) (T k) = T k
  rw [hA, max_eq_right bot_le]

/-- The exponential of a logit less its column's greatest, `m`: 0 where the logit is −∞. -/
def power (v : EReal) (m : ℝ) : ℝ := if v = ⊥ then 0 else Real.exp (v.toReal - m)

/-- It is not negative. -/
theorem power_nonneg (v : EReal) (m : ℝ) : 0 ≤ power v m := by
  unfold power
  split
  · exact le_rfl
  · exact (Real.exp_pos _).le

/-- It is positive where the logit is not −∞. -/
theorem power_pos (v : EReal) (m : ℝ) (hv : v ≠ ⊥) : 0 < power v m := by
  unfold power
  rw [if_neg hv]
  exact Real.exp_pos _

/-- It grows with the logit. -/
theorem power_lt (v w : EReal) (m : ℝ) (hvw : v < w) (hw : w ≠ ⊤) : power v m < power w m := by
  have hw' : w ≠ ⊥ := (bot_le.trans_lt hvw).ne'
  by_cases hv : v = ⊥
  · unfold power
    rw [if_pos hv, if_neg hw']
    exact Real.exp_pos _
  · unfold power
    rw [if_neg hv, if_neg hw']
    refine Real.exp_lt_exp.mpr (sub_lt_sub_right ?_ m)
    rwa [← EReal.coe_lt_coe_iff, EReal.coe_toReal (hvw.trans_le le_top).ne hv, EReal.coe_toReal hw hw']

/-- The exponential of a difference, the first number not +∞ and the second real. -/
theorem exp_sub_apply {s : Shape} (x N : s.Idx → EReal) (k : s.Idx) (m : ℝ) (hx : x k ≠ ⊤) (hN : N k = m) :
    Host.exp (F := Ideal) (φ := .f32) (subf (F := Ideal) (φ := .f32) x N) k = (power (x k) m : EReal) := by
  show Ideal.exp (x k - N k) = _
  rw [hN]
  generalize x k = v at hx
  induction v using EReal.rec with
  | bot => unfold power; rw [if_pos rfl, EReal.bot_sub]; rfl
  | coe v => unfold power; rw [if_neg (EReal.coe_ne_bot v), EReal.toReal_coe, ← EReal.coe_sub]; rfl
  | top => exact absurd rfl hx

/-- The exponentials at a place. -/
theorem powers_apply (x : S16x1024x32x32.Idx → EReal) (j : S16x1024x32x32.Idx) (m : ℝ) (hx : x j ≠ ⊤) (hm : tops x (colOf j) = m) :
    powers x j = (power (x j) m : EReal) := by
  unfold powers
  refine exp_sub_apply _ _ j m hx ?_
  rw [spread_apply, max_bot_apply _ _ _ (bcast_bot _ bot_const _), hm]

/-- The quotient of two numbers, the second not 0. -/
theorem div_coe (a t : ℝ) (ht : 0 < t) : Ideal.div (a : EReal) (t : EReal) = ((a / t : ℝ) : EReal) := by
  have h0 : (t : EReal) ≠ 0 := fun e => ht.ne' (EReal.coe_eq_zero.mp e)
  rw [Ideal.div, if_neg h0, ← EReal.coe_inv, ← EReal.coe_mul, div_eq_mul_inv]

/-- The order of two row numbers as words. -/
theorem ofNat_slt (a b : Fin 1024) (hab : a < b) : (BitVec.ofNat 32 a.val).slt (BitVec.ofNat 32 b.val) = true := by
  have ha := a.isLt
  have hb := b.isLt
  have hab' : a.val < b.val := hab
  rw [BitVec.slt, decide_eq_true_iff, BitVec.toInt_eq_toNat_of_lt, BitVec.toInt_eq_toNat_of_lt] <;> simp only [BitVec.toNat_ofNat] <;> omega

/-- The row numbers at a column's rows. -/
theorem iota_atRow (j : S16x1024x32x32.Idx) (c : Fin 1024) : iotaInDim S16x1024x32x32 32 1 (atRow j c) = BitVec.ofNat 32 c.val := by
  have e : (atRow j c) 1 = c := Function.update_self _ _ _
  exact congrArg (fun r : Fin 1024 => BitVec.ofNat 32 r.val) e

/-- The index of the first greatest of a column, for any array of row numbers that numbers the column's rows. -/
theorem argmax_rows (x : S16x1024x32x32.Idx → EReal) (y : S16x1024x32x32.Idx → BitVec 32) (init : S_.Idx → EReal) (inity : S_.Idx → BitVec 32)
    (hi : ∀ i, init i = ⊥) (j : S16x1024x32x32.Idx) (r : Fin 1024) (hy : ∀ c, y (atRow j c) = BitVec.ofNat 32 c.val)
    (hr : First (fun c => x (atRow j c)) r) (hb : ⊥ < x (atRow j r)) :
    firstOf reducesTo_S16x1024x32x32_S16x32x32_d1 h_S_ x y init inity (colOf j) = y (atRow j r) := by
  rw [← colOf_atRow j r]
  refine argmax_eq _ _ x y _ _ (hi _) (atRow j r) hb fun k hk => ?_
  have hk' := atRow_of_colOf j k (hk.trans (colOf_atRow j r))
  obtain ⟨c, hc⟩ : ∃ c : Fin 1024, k = atRow j c := ⟨_, hk'⟩
  subst hc
  clear hk'
  rcases lt_trichotomy c r with hc | hc | hc
  · exact Or.inr (Or.inl (hr.2 c hc))
  · exact Or.inl (by rw [hc])
  · rcases (hr.1 c).lt_or_eq with g | g
    · exact Or.inr (Or.inl g)
    · refine Or.inr (Or.inr ⟨g, ?_⟩)
      rw [hy, hy]
      exact ofNat_slt r c hc

/-- The index of the first greatest of a column. -/
theorem firsts_apply (x : S16x1024x32x32.Idx → EReal) (j : S16x1024x32x32.Idx) (r : Fin 1024) (hr : First (fun c => x (atRow j c)) r)
    (hb : ⊥ < x (atRow j r)) : firsts x (colOf j) = BitVec.ofNat 32 r.val := by
  unfold firsts
  exact (argmax_rows x _ _ _ bot_const j r (iota_atRow j) hr hb).trans (iota_atRow j r)

variable (d : Dev nD) (W : Valuation τ sig (Elt Ideal)) (h : (refLine (F := Ideal) d).1 W)
include h

/-- The softmax at a place. -/
theorem soft_apply (j : S16x1024x32x32.Idx) : soft W j = Ideal.div (powers (logits W) j) (sums (powers (logits W)) (colOf j)) := by
  rw [soft_eq d W h, ← spread_apply (sums (powers (logits W))) j]
  generalize powers (logits W) = p
  generalize spread (sums p) = q
  rfl

/-- The softmax of a column whose greatest logit is real: exponentials, over a positive number. -/
theorem soft_column (j : S16x1024x32x32.Idx) (r : Fin 1024) (m : ℝ) (hr : First (fun c => logits W (atRow j c)) r)
    (hm : logits W (atRow j r) = m) : ∃ t : ℝ, 0 < t ∧ ∀ k, colOf k = colOf j → soft W k = ((power (logits W k) m / t : ℝ) : EReal) := by
  have hpow : ∀ k, colOf k = colOf j → powers (logits W) k = (power (logits W k) m : EReal) := by
    intro k hk
    refine powers_apply _ k m ?_ ?_
    · rw [atRow_of_colOf j k hk]
      exact ((hr.1 _).trans_lt (hm.trans_lt (EReal.coe_lt_top m))).ne
    · rw [hk, tops_eq _ j r hr, hm]
  obtain ⟨t, ht, hs⟩ := sums_real (powers (logits W)) (fun k => power (logits W k) m) j r hpow (fun k => power_nonneg _ m)
    (power_pos _ m (hm ▸ EReal.coe_ne_bot m))
  refine ⟨t, ht, fun k hk => ?_⟩
  rw [soft_apply d W h, hk, hs, hpow k hk, div_coe _ _ ht]

omit h

/-- Whether two words are equal, as a number. -/
theorem hot_word (a b : BitVec 32) : FloatOps.uitofp (F := Ideal) .f32 (IntOp.cmpi .eq a b) = if a = b then (1 : EReal) else 0 := by
  show (((IntOp.cmpi .eq a b).toNat : ℝ) : EReal) = _
  by_cases e : a = b
  · subst e; simp [IntOp.cmpi]
  · simp [IntOp.cmpi, e]

/-- Row numbers are told apart by their words. -/
theorem ofNat_eq_iff (a b : ℕ) (ha : a < 1024) (hb : b < 1024) : BitVec.ofNat 32 a = BitVec.ofNat 32 b ↔ b = a := by
  refine ⟨fun e => ?_, fun e => by rw [e]⟩
  have := congrArg BitVec.toNat e
  simp only [BitVec.toNat_ofNat] at this
  omega

/-- A number less another, plus the other. -/
theorem add_sub_apply {s : Shape} (A B : s.Idx → EReal) (k : s.Idx) :
    addf (F := Ideal) (φ := .f32) (subf (F := Ideal) (φ := .f32) A B) B k = (A k - B k) + B k := rfl

/-- Whether a place's row is its column's pick, as a number. -/
theorem hot_apply (I : S16x32x32.Idx → BitVec 32) (j : S16x1024x32x32.Idx) :
    transpose S16x1024x32x32 [0, 3, 1, 2] (uitofp (F := Ideal) .f32 (cmpi .eq
      (broadcastInDim S16x32x32x1024 ![0, 1, 2, 3] bcast_S16x32x32x1_S16x32x32x1024_0_1_2_3
        (broadcastInDim S16x32x32x1 ![0, 1, 2] bcast_S16x32x32_S16x32x32x1_0_1_2 I))
      (broadcastInDim S16x32x32x1024 ![0, 1, 2, 3] bcast_S1x1x1x1024_S16x32x32x1024_0_1_2_3 (iotaInDim S1x1x1x1024 32 3))))
      transposes_S16x32x32x1024_S16x1024x32x32_0_3_1_2 j = FloatOps.uitofp (F := Ideal) .f32 (IntOp.cmpi .eq (I (colOf j)) (BitVec.ofNat 32 (j 1).val)) := by
  pointwise
  exact congrArg (fun a => FloatOps.uitofp (F := Ideal) .f32 (IntOp.cmpi .eq (I a) (BitVec.ofNat 32 (j 1).val))) (eq_colOf j _ rfl rfl rfl)

include h

/-- The result at a place: whether its row is the column's pick, minus and plus the softmax. -/
theorem out_at (j : S16x1024x32x32.Idx) :
    out W j = (FloatOps.uitofp (F := Ideal) .f32 (IntOp.cmpi .eq (pick W (colOf j)) (BitVec.ofNat 32 (j 1).val)) - soft W j) + soft W j := by
  rw [out_eq d W h, add_sub_apply, hot_apply]

/-- The result is 1 at the first row of its column that holds the greatest logit, and 0 elsewhere. -/
theorem out_apply (j : S16x1024x32x32.Idx) (r : Fin 1024) (m : ℝ) (hr : First (fun c => logits W (atRow j c)) r)
    (hm : logits W (atRow j r) = m) : out W j = if (j 1 : ℕ) = r then 1 else 0 := by
  obtain ⟨t, ht, hs⟩ := soft_column d W h j r m hr hm
  have hrow : ∀ c, soft W (atRow j c) = ((power (logits W (atRow j c)) m / t : ℝ) : EReal) := fun c => hs _ (colOf_atRow j c)
  have hsr : First (fun c => soft W (atRow j c)) r := by
    refine hr.mono (fun a b hab => ?_) (fun a b hab => ?_)
    · simp only [hrow, EReal.coe_lt_coe_iff]
      exact div_lt_div_of_pos_right (power_lt _ _ m hab ((hr.1 b).trans_lt (hm.trans_lt (EReal.coe_lt_top m))).ne) ht
    · simp only [hrow]
      exact congrArg (fun v => ((power v m / t : ℝ) : EReal)) hab
  have hb : ⊥ < soft W (atRow j r) := by rw [hrow]; exact EReal.bot_lt_coe _
  rw [out_at d W h, pick_eq d W h, firsts_apply (soft W) j r hsr hb, hs j rfl]
  have hj : (j 1 : ℕ) < 1024 := (j 1).isLt
  have hrl := r.isLt
  have key : ∀ v : EReal, (v = 0 ∨ v = 1) → ∀ y : ℝ, (v - (y : EReal)) + (y : EReal) = v := by
    rintro v (rfl | rfl) y
    · rw [← EReal.coe_zero, ← EReal.coe_sub, ← EReal.coe_add, sub_add_cancel]
    · rw [← EReal.coe_one, ← EReal.coe_sub, ← EReal.coe_add, sub_add_cancel]
  rw [hot_word, key]
  · exact if_congr (ofNat_eq_iff _ _ hrl hj) rfl rfl
  · split
    · exact Or.inr rfl
    · exact Or.inl rfl

end Cert.ReferenceIdeal.Own

end
-- ==== Proof.Finite.lean ====
module

public import proofs.«01_k».proof.Pre_finite_tops
public import proofs.«01_k».proof.Proof.RefColumn
public import Idealize.ShloMosaic.Lib.ReduceAll
public import Idealize.ShloMosaic.PureOps.Ideal.Laws

@[expose] public section

noncomputable section

/-!
# The precondition

What the precondition says: the greatest element of every column of the argument is a real number.
-/

namespace Cert.Pre_finite_tops.Own

open Idealize.ShloMosaic Cert.Pre_finite_tops
open Cert.ReferenceIdeal.Own (colOf tops)

/-- The side conditions of the precondition's operations. -/
instance facts : Cert.Pre_finite_tops.Facts where
  reducesTo_S16x1024x32x32_S16x32x32_d1 := by decide
  h_S_ := by decide
  bcast_S_S16x32x32 := by decide
  reducesTo_S16x32x32_S_d0_1_2 := by decide

/-- A number whose absolute value is less than plus infinity is real. -/
theorem real_of_abs_lt {s : Shape} (x y : FVec Ideal s .f32) (i : s.Idx) (hy : y i = (⊤ : EReal))
    (h : cmpf (F := Ideal) .olt (Host.absf x) y i = 1#1) : ∃ r : ℝ, x i = (r : EReal) := by
  have h1 : BitVec.ofBool (decide (max (x i) (-(x i)) < y i)) = 1#1 := h
  rw [hy] at h1
  have h2 : max (x i) (-(x i)) < (⊤ : EReal) := by
    by_contra g
    rw [decide_eq_false g] at h1
    exact absurd h1 (by decide)
  generalize x i = v at h2 ⊢
  induction v using EReal.rec with
  | bot => simp at h2
  | coe r => exact ⟨r, rfl⟩
  | top => simp at h2

/-- **Every column's greatest element is real.** -/
theorem real_of_pre (x : FVec Ideal S16x1024x32x32 .f32) (h : fn (F := Ideal) x = fun _ => 1#1) (j : S16x1024x32x32.Idx) :
    ∃ m : ℝ, tops x (colOf j) = (m : EReal) := by
  haveI : Subsingleton S_.Idx := ⟨fun a b => funext fun k => k.elim0⟩
  refine real_of_abs_lt (tops x) _ (colOf j) ?_ (Host.reduce_andi_all _ _ _ _ (fun k => k.elim0) (congrFun h _) (colOf j))
  show Ideal.ofBits .f32 0x7F800000#32 = ⊤
  simp [Ideal.ofBits, Ideal.ieee]

end Cert.Pre_finite_tops.Own

end
-- ==== Proof.Trip.lean ====
module

public import proofs.«01_k».proof.Proof.Cipher
public import proofs.«01_k».proof.Proof.Gen.KernelIdeal.Frame

@[expose] public section

set_option maxRecDepth 16384
set_option maxHeartbeats 20000000

noncomputable section

/-!
# One trip of the kernel's loop, as four chunk steps

The loop takes 32 trips, each over four chunks of eight rows. A chunk draws one number for each of its
8 by 1024 places, adds it to the chunk of the input, and updates the carried pair: the largest sum so far of
each place, and the row it was met at.
-/

namespace Cert.KernelIdeal.Own

open Idealize.ShloMosaic Idealize.ShloMosaic.TcCoe Idealize.SL.Sem Cert.KernelIdeal Cert.KernelIdeal.Gen Cert.Cipher

variable {F : FTy → Type} [FloatOps F]

/-- A word at each of a chunk's places. -/
abbrev Words := IVec S8x1024 32

/-- The fraction in [0, 1) that 23 bits of each word spell. -/
def fraction (b : Words) : FVec F S8x1024 .f32 :=
  subf (bitcastToFloat .f32 (ori (shrui b (broadcast S8x1024 9#32)) (broadcast S8x1024 1065353216#32)))
    (broadcast S8x1024 (Scalar.ofBits .f32 0x3F800000#32))

/-- The noise of each word: the fraction moved into the open unit interval, then minus the logarithm of minus its logarithm. -/
def noise (b : Words) : FVec F S8x1024 .f32 :=
  subf (broadcast S8x1024 (Scalar.ofBits .f32 0x00000000#32)) (log (subf (broadcast S8x1024 (Scalar.ofBits .f32 0x00000000#32))
    (log (maximumf (broadcast S8x1024 (Scalar.ofBits .f32 0x00800000#32))
      (addf (mulf (fraction b) (broadcast S8x1024 (Scalar.ofBits .f32 0x3F800000#32)))
        (broadcast S8x1024 (Scalar.ofBits .f32 0x00800000#32)))))))

/-- The chunk's number: four per trip. -/
def chunkNo (k : Fin k0_t1_loop.trips) (j : BitVec 32) : BitVec 32 :=
  Scalar.addi (Scalar.muli (Scf.iv 0#32 1#32 k) 4#32) j

/-- The noise of chunk `q` of block `i`. -/
def chunkNoise (i : grid0.Coords) (q : BitVec 32) : FVec F S8x1024 .f32 :=
  noise (xori (cipher (addi (k0_pay1 i) (broadcast S8x1024 (Scalar.muli q 8192#32))) 20).1
    (cipher (addi (k0_pay1 i) (broadcast S8x1024 (Scalar.muli q 8192#32))) 20).2)

/-- The sums of chunk `q`: the input's rows plus the noise. -/
def sums (i : grid0.Coords) (q : BitVec 32) (x : Vec F S1x8x1024 .f32) : FVec F S8x1024 .f32 :=
  addf (shapeCast S8x1024 x shapeCasts_S1x8x1024_S8x1024) (chunkNoise i q)

/-- The rows of chunk `q`. -/
def rows (q : BitVec 32) : Words :=
  addi (iota .tc S8x1024 32 [0] iota_S8x1024_d0_w32) (broadcast S8x1024 (Scalar.muli q 8#32))

/-- One chunk's step of the carried pair: where the chunk's sum is larger it and its row are taken. -/
def step (i : grid0.Coords) (q : BitVec 32) (x : Vec F S1x8x1024 .f32) (acc : FVec F S8x1024 .f32 × Words) :
    FVec F S8x1024 .f32 × Words :=
  (select (cmpf .ogt (sums i q x) acc.1) (sums i q x) acc.1, select (cmpf .ogt (sums i q x) acc.1) (rows q) acc.2)

/-- The eight input rows that chunk `j` of trip `k` loads. -/
def chunkRows (arg1 : Memref sig .tc .vmem S1x1024x1024 .f32) (X : BufTy.Contents (Elt F) arg1.view.ty)
    (k : Fin k0_t1_loop.trips) (j : Fin 4) : Vec F S1x8x1024 .f32 :=
  View.readAt (Elt F) arg1.view (Rect.unit (s := S1x1024x1024) (k0_off1 k (BitVec.ofNat 32 j)) S1x8x1024.size (k0_off1_inb k j)).toLoadRect X

/-- One trip is the four chunk steps in turn. -/
theorem trip_eq (𝒱 : Variants) (c : Dev nD) (bd : Option 𝒱.V) (i : grid0.Coords)
    (arg1 : Memref sig .tc .vmem S1x1024x1024 .f32) (harg1 : arg1.IsWhole) (arg2 : Memref sig .tc .vmem S1x1024x1024 .f32)
    (harg2 : arg2.IsWhole) (X : BufTy.Contents (Elt F) arg1.view.ty) (k : Fin k0_t1_loop.trips)
    (acc : FVec F S8x1024 .f32 × IVec S8x1024 32) :
    tripR_k0_t1 (F := F) 𝒱 c bd i arg1 harg1 arg2 harg2 (iota .tc S8x1024 32 [0] iota_S8x1024_d0_w32) X k acc =
      step i (chunkNo k 3#32) (chunkRows arg1 X k 3) (step i (chunkNo k 2#32) (chunkRows arg1 X k 2)
        (step i (chunkNo k 1#32) (chunkRows arg1 X k 1) (step i (chunkNo k 0#32) (chunkRows arg1 X k 0) acc))) := by
  unfold tripR_k0_t1 trip_k0_t1
  simp (disch := decide) only [fold_first, fold_second, fold_add, fold_xor, fold_feed, fold_feed_xor, Nat.reduceAdd, trip_k0_t1.sl.r,
    trip_k0_t1.sl.arg3, trip_k0_t1.sl.r_1, trip_k0_t1.sl.r_10, trip_k0_t1.sl.r_11, trip_k0_t1.sl.r_12,
    trip_k0_t1.sl.r_13, trip_k0_t1.sl.r_14, trip_k0_t1.sl.r_2, trip_k0_t1.sl.r_3, trip_k0_t1.sl.r_4, trip_k0_t1.sl.r_5,
    trip_k0_t1.sl.r_6, trip_k0_t1.sl.r_7, trip_k0_t1.sl.r_8, trip_k0_t1.sl.r_9, trip_k0_t1.sl.v100, trip_k0_t1.sl.v101,
    trip_k0_t1.sl.v102, trip_k0_t1.sl.v104, trip_k0_t1.sl.v106, trip_k0_t1.sl.v107, trip_k0_t1.sl.v108,
    trip_k0_t1.sl.v109, trip_k0_t1.sl.v111, trip_k0_t1.sl.v113, trip_k0_t1.sl.v114, trip_k0_t1.sl.v115,
    trip_k0_t1.sl.v116, trip_k0_t1.sl.v118, trip_k0_t1.sl.v120, trip_k0_t1.sl.v121, trip_k0_t1.sl.v122,
    trip_k0_t1.sl.v123, trip_k0_t1.sl.v125, trip_k0_t1.sl.v127, trip_k0_t1.sl.v128, trip_k0_t1.sl.v129,
    trip_k0_t1.sl.v131, trip_k0_t1.sl.v132, trip_k0_t1.sl.v133, trip_k0_t1.sl.v134, trip_k0_t1.sl.v136,
    trip_k0_t1.sl.v138, trip_k0_t1.sl.v139, trip_k0_t1.sl.v140, trip_k0_t1.sl.v141, trip_k0_t1.sl.v143,
    trip_k0_t1.sl.v145, trip_k0_t1.sl.v146, trip_k0_t1.sl.v147, trip_k0_t1.sl.v148, trip_k0_t1.sl.v150,
    trip_k0_t1.sl.v152, trip_k0_t1.sl.v153, trip_k0_t1.sl.v154, trip_k0_t1.sl.v155, trip_k0_t1.sl.v157,
    trip_k0_t1.sl.v159, trip_k0_t1.sl.v160, trip_k0_t1.sl.v161, trip_k0_t1.sl.v230, trip_k0_t1.sl.v250,
    trip_k0_t1.sl.v251, trip_k0_t1.sl.v252, trip_k0_t1.sl.v253, trip_k0_t1.sl.v255, trip_k0_t1.sl.v257,
    trip_k0_t1.sl.v258, trip_k0_t1.sl.v259, trip_k0_t1.sl.v260, trip_k0_t1.sl.v262, trip_k0_t1.sl.v264,
    trip_k0_t1.sl.v265, trip_k0_t1.sl.v266, trip_k0_t1.sl.v268, trip_k0_t1.sl.v270, trip_k0_t1.sl.v271,
    trip_k0_t1.sl.v273, trip_k0_t1.sl.v275, trip_k0_t1.sl.v276, trip_k0_t1.sl.v277, trip_k0_t1.sl.v278,
    trip_k0_t1.sl.v28, trip_k0_t1.sl.v280, trip_k0_t1.sl.v282, trip_k0_t1.sl.v283, trip_k0_t1.sl.v284,
    trip_k0_t1.sl.v285, trip_k0_t1.sl.v287, trip_k0_t1.sl.v289, trip_k0_t1.sl.v29, trip_k0_t1.sl.v290,
    trip_k0_t1.sl.v291, trip_k0_t1.sl.v292, trip_k0_t1.sl.v294, trip_k0_t1.sl.v296, trip_k0_t1.sl.v297,
    trip_k0_t1.sl.v298, trip_k0_t1.sl.v30, trip_k0_t1.sl.v300, trip_k0_t1.sl.v302, trip_k0_t1.sl.v303,
    trip_k0_t1.sl.v305, trip_k0_t1.sl.v307, trip_k0_t1.sl.v308, trip_k0_t1.sl.v309, trip_k0_t1.sl.v31,
    trip_k0_t1.sl.v310, trip_k0_t1.sl.v312, trip_k0_t1.sl.v314, trip_k0_t1.sl.v315, trip_k0_t1.sl.v316,
    trip_k0_t1.sl.v317, trip_k0_t1.sl.v319, trip_k0_t1.sl.v32, trip_k0_t1.sl.v321, trip_k0_t1.sl.v322,
    trip_k0_t1.sl.v323, trip_k0_t1.sl.v324, trip_k0_t1.sl.v326, trip_k0_t1.sl.v328, trip_k0_t1.sl.v329,
    trip_k0_t1.sl.v33, trip_k0_t1.sl.v330, trip_k0_t1.sl.v332, trip_k0_t1.sl.v334, trip_k0_t1.sl.v335,
    trip_k0_t1.sl.v337, trip_k0_t1.sl.v339, trip_k0_t1.sl.v340, trip_k0_t1.sl.v341, trip_k0_t1.sl.v342,
    trip_k0_t1.sl.v344, trip_k0_t1.sl.v346, trip_k0_t1.sl.v347, trip_k0_t1.sl.v348, trip_k0_t1.sl.v349,
    trip_k0_t1.sl.v351, trip_k0_t1.sl.v353, trip_k0_t1.sl.v354, trip_k0_t1.sl.v355, trip_k0_t1.sl.v356,
    trip_k0_t1.sl.v358, trip_k0_t1.sl.v36, trip_k0_t1.sl.v360, trip_k0_t1.sl.v361, trip_k0_t1.sl.v362,
    trip_k0_t1.sl.v364, trip_k0_t1.sl.v365, trip_k0_t1.sl.v366, trip_k0_t1.sl.v367, trip_k0_t1.sl.v369,
    trip_k0_t1.sl.v37, trip_k0_t1.sl.v371, trip_k0_t1.sl.v372, trip_k0_t1.sl.v373, trip_k0_t1.sl.v374,
    trip_k0_t1.sl.v376, trip_k0_t1.sl.v378, trip_k0_t1.sl.v379, trip_k0_t1.sl.v38, trip_k0_t1.sl.v380,
    trip_k0_t1.sl.v381, trip_k0_t1.sl.v383, trip_k0_t1.sl.v385, trip_k0_t1.sl.v386, trip_k0_t1.sl.v39,
    trip_k0_t1.sl.v40, trip_k0_t1.sl.v41, trip_k0_t1.sl.v42, trip_k0_t1.sl.v43, trip_k0_t1.sl.v431, trip_k0_t1.sl.v432,
    trip_k0_t1.sl.v433, trip_k0_t1.sl.v434, trip_k0_t1.sl.v439, trip_k0_t1.sl.v44, trip_k0_t1.sl.v440,
    trip_k0_t1.sl.v442, trip_k0_t1.sl.v444, trip_k0_t1.sl.v445, trip_k0_t1.sl.v446, trip_k0_t1.sl.v447,
    trip_k0_t1.sl.v449, trip_k0_t1.sl.v45, trip_k0_t1.sl.v451, trip_k0_t1.sl.v452, trip_k0_t1.sl.v453,
    trip_k0_t1.sl.v454, trip_k0_t1.sl.v456, trip_k0_t1.sl.v458, trip_k0_t1.sl.v459, trip_k0_t1.sl.v46,
    trip_k0_t1.sl.v460, trip_k0_t1.sl.v461, trip_k0_t1.sl.v463, trip_k0_t1.sl.v465, trip_k0_t1.sl.v466,
    trip_k0_t1.sl.v467, trip_k0_t1.sl.v469, trip_k0_t1.sl.v47, trip_k0_t1.sl.v471, trip_k0_t1.sl.v472,
    trip_k0_t1.sl.v474, trip_k0_t1.sl.v476, trip_k0_t1.sl.v477, trip_k0_t1.sl.v478, trip_k0_t1.sl.v479,
    trip_k0_t1.sl.v48, trip_k0_t1.sl.v481, trip_k0_t1.sl.v483, trip_k0_t1.sl.v484, trip_k0_t1.sl.v485,
    trip_k0_t1.sl.v486, trip_k0_t1.sl.v488, trip_k0_t1.sl.v49, trip_k0_t1.sl.v490, trip_k0_t1.sl.v491,
    trip_k0_t1.sl.v492, trip_k0_t1.sl.v493, trip_k0_t1.sl.v495, trip_k0_t1.sl.v497, trip_k0_t1.sl.v498,
    trip_k0_t1.sl.v499, trip_k0_t1.sl.v50, trip_k0_t1.sl.v501, trip_k0_t1.sl.v503, trip_k0_t1.sl.v504,
    trip_k0_t1.sl.v506, trip_k0_t1.sl.v508, trip_k0_t1.sl.v509, trip_k0_t1.sl.v51, trip_k0_t1.sl.v510,
    trip_k0_t1.sl.v511, trip_k0_t1.sl.v513, trip_k0_t1.sl.v515, trip_k0_t1.sl.v516, trip_k0_t1.sl.v517,
    trip_k0_t1.sl.v518, trip_k0_t1.sl.v52, trip_k0_t1.sl.v520, trip_k0_t1.sl.v522, trip_k0_t1.sl.v523,
    trip_k0_t1.sl.v524, trip_k0_t1.sl.v525, trip_k0_t1.sl.v527, trip_k0_t1.sl.v529, trip_k0_t1.sl.v53,
    trip_k0_t1.sl.v530, trip_k0_t1.sl.v531, trip_k0_t1.sl.v533, trip_k0_t1.sl.v535, trip_k0_t1.sl.v536,
    trip_k0_t1.sl.v538, trip_k0_t1.sl.v54, trip_k0_t1.sl.v540, trip_k0_t1.sl.v541, trip_k0_t1.sl.v542,
    trip_k0_t1.sl.v543, trip_k0_t1.sl.v545, trip_k0_t1.sl.v547, trip_k0_t1.sl.v548, trip_k0_t1.sl.v549,
    trip_k0_t1.sl.v55, trip_k0_t1.sl.v550, trip_k0_t1.sl.v552, trip_k0_t1.sl.v554, trip_k0_t1.sl.v555,
    trip_k0_t1.sl.v556, trip_k0_t1.sl.v557, trip_k0_t1.sl.v559, trip_k0_t1.sl.v56, trip_k0_t1.sl.v561,
    trip_k0_t1.sl.v562, trip_k0_t1.sl.v563, trip_k0_t1.sl.v565, trip_k0_t1.sl.v57, trip_k0_t1.sl.v58, trip_k0_t1.sl.v59,
    trip_k0_t1.sl.v61, trip_k0_t1.sl.v63, trip_k0_t1.sl.v632, trip_k0_t1.sl.v64, trip_k0_t1.sl.v65, trip_k0_t1.sl.v653,
    trip_k0_t1.sl.v654, trip_k0_t1.sl.v655, trip_k0_t1.sl.v657, trip_k0_t1.sl.v659, trip_k0_t1.sl.v660,
    trip_k0_t1.sl.v661, trip_k0_t1.sl.v662, trip_k0_t1.sl.v664, trip_k0_t1.sl.v666, trip_k0_t1.sl.v667,
    trip_k0_t1.sl.v668, trip_k0_t1.sl.v67, trip_k0_t1.sl.v670, trip_k0_t1.sl.v672, trip_k0_t1.sl.v673,
    trip_k0_t1.sl.v675, trip_k0_t1.sl.v677, trip_k0_t1.sl.v678, trip_k0_t1.sl.v679, trip_k0_t1.sl.v68,
    trip_k0_t1.sl.v680, trip_k0_t1.sl.v682, trip_k0_t1.sl.v684, trip_k0_t1.sl.v685, trip_k0_t1.sl.v686,
    trip_k0_t1.sl.v687, trip_k0_t1.sl.v689, trip_k0_t1.sl.v69, trip_k0_t1.sl.v691, trip_k0_t1.sl.v692,
    trip_k0_t1.sl.v693, trip_k0_t1.sl.v694, trip_k0_t1.sl.v696, trip_k0_t1.sl.v698, trip_k0_t1.sl.v699,
    trip_k0_t1.sl.v70, trip_k0_t1.sl.v700, trip_k0_t1.sl.v702, trip_k0_t1.sl.v704, trip_k0_t1.sl.v705,
    trip_k0_t1.sl.v707, trip_k0_t1.sl.v709, trip_k0_t1.sl.v710, trip_k0_t1.sl.v711, trip_k0_t1.sl.v712,
    trip_k0_t1.sl.v714, trip_k0_t1.sl.v716, trip_k0_t1.sl.v717, trip_k0_t1.sl.v718, trip_k0_t1.sl.v719,
    trip_k0_t1.sl.v72, trip_k0_t1.sl.v721, trip_k0_t1.sl.v723, trip_k0_t1.sl.v724, trip_k0_t1.sl.v725,
    trip_k0_t1.sl.v726, trip_k0_t1.sl.v728, trip_k0_t1.sl.v730, trip_k0_t1.sl.v731, trip_k0_t1.sl.v732,
    trip_k0_t1.sl.v734, trip_k0_t1.sl.v736, trip_k0_t1.sl.v737, trip_k0_t1.sl.v739, trip_k0_t1.sl.v74,
    trip_k0_t1.sl.v741, trip_k0_t1.sl.v742, trip_k0_t1.sl.v743, trip_k0_t1.sl.v744, trip_k0_t1.sl.v746,
    trip_k0_t1.sl.v748, trip_k0_t1.sl.v749, trip_k0_t1.sl.v75, trip_k0_t1.sl.v750, trip_k0_t1.sl.v751,
    trip_k0_t1.sl.v753, trip_k0_t1.sl.v755, trip_k0_t1.sl.v756, trip_k0_t1.sl.v757, trip_k0_t1.sl.v758,
    trip_k0_t1.sl.v76, trip_k0_t1.sl.v760, trip_k0_t1.sl.v762, trip_k0_t1.sl.v763, trip_k0_t1.sl.v764,
    trip_k0_t1.sl.v766, trip_k0_t1.sl.v768, trip_k0_t1.sl.v769, trip_k0_t1.sl.v77, trip_k0_t1.sl.v771,
    trip_k0_t1.sl.v773, trip_k0_t1.sl.v774, trip_k0_t1.sl.v775, trip_k0_t1.sl.v776, trip_k0_t1.sl.v778,
    trip_k0_t1.sl.v78, trip_k0_t1.sl.v780, trip_k0_t1.sl.v781, trip_k0_t1.sl.v782, trip_k0_t1.sl.v783,
    trip_k0_t1.sl.v785, trip_k0_t1.sl.v787, trip_k0_t1.sl.v788, trip_k0_t1.sl.v789, trip_k0_t1.sl.v79,
    trip_k0_t1.sl.v790, trip_k0_t1.sl.v80, trip_k0_t1.sl.v81, trip_k0_t1.sl.v82, trip_k0_t1.sl.v83, trip_k0_t1.sl.v84,
    trip_k0_t1.sl.v85, trip_k0_t1.sl.v86, trip_k0_t1.sl.v88, trip_k0_t1.sl.v89, trip_k0_t1.sl.v90, trip_k0_t1.sl.v91,
    trip_k0_t1.sl.v92, trip_k0_t1.sl.v93, trip_k0_t1.sl.v94, trip_k0_t1.sl.v95, trip_k0_t1.sl.v96, trip_k0_t1.sl.v97,
    trip_k0_t1.sl.v98, trip_k0_t1.sl.v99, k0_pay4, k0_pay5, k0_pay6, k0_pay7, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179,
    trip_k0_t1.sl.cst_180, trip_k0_t1.sl.cst_180]
  rfl

end Cert.KernelIdeal.Own

end
-- ==== Proof.Loop.lean ====
module

public import proofs.«01_k».proof.Proof.Trip
public import proofs.«01_k».proof.Proof.Noise
public import proofs.«01_k».proof.Proof.Folds
public import Idealize.ShloMosaic.Lib.Pointwise
public import Idealize.ShloMosaic.Lib.WholeRead
public import Idealize.ShloMosaic.Lib.ValueLayout

@[expose] public section

set_option maxRecDepth 16384
set_option maxHeartbeats 2000000

noncomputable section

/-!
# What the kernel's loop keeps

At each of its 8 by 1024 places the loop keeps the largest sum met so far and the first row that it was met at.
-/

namespace Cert.KernelIdeal.Own

open Idealize.ShloMosaic Idealize.ShloMosaic.TcCoe Idealize.SL.Sem Cert.KernelIdeal Cert.KernelIdeal.Gen Cert.Cipher Cert.Noise Cert.Folds

/-- What a lane keeps after `q` chunks of a column `f`: −∞ while its rows are all −∞, else the greatest of the lane's rows so far with its first row. -/
def Kept (f : ℕ → EReal) (l q : ℕ) (v : EReal) (w : BitVec 32) : Prop :=
  (v = ⊥ ∧ ∀ s < q, f (8 * s + l) = ⊥) ∨
    ∃ k < q, w = BitVec.ofNat 32 (8 * k + l) ∧ v = f (8 * k + l) ∧ (∀ s < q, f (8 * s + l) ≤ v) ∧ ∀ s < k, f (8 * s + l) < v

/-- One more chunk: the lane's row is taken where its number is larger than the kept one. -/
theorem Kept.next {f : ℕ → EReal} {l q : ℕ} {v : EReal} {w : BitVec 32} (h : Kept f l q v w) :
    Kept f l (q + 1) (if v < f (8 * q + l) then f (8 * q + l) else v) (if v < f (8 * q + l) then BitVec.ofNat 32 (8 * q + l) else w) := by
  by_cases hv : v < f (8 * q + l)
  · have hlt : ∀ s < q, f (8 * s + l) < f (8 * q + l) := by
      intro s hs
      rcases h with ⟨rfl, h⟩ | ⟨k, _, _, _, h4, _⟩
      · rw [h s hs]; exact hv
      · exact (h4 s hs).trans_lt hv
    simp only [if_pos hv]
    refine Or.inr ⟨q, Nat.lt_succ_self q, rfl, rfl, fun s hs => ?_, hlt⟩
    rcases Nat.lt_succ_iff_lt_or_eq.mp hs with hs | rfl
    · exact (hlt s hs).le
    · exact le_rfl
  · simp only [if_neg hv]
    rcases h with ⟨rfl, h⟩ | ⟨k, h1, h2, h3, h4, h5⟩
    · refine Or.inl ⟨rfl, fun s hs => ?_⟩
      rcases Nat.lt_succ_iff_lt_or_eq.mp hs with hs | rfl
      · exact h s hs
      · exact le_bot_iff.mp (not_lt.mp hv)
    · refine Or.inr ⟨k, h1.trans (Nat.lt_succ_self q), h2, h3, fun s hs => ?_, h5⟩
      rcases Nat.lt_succ_iff_lt_or_eq.mp hs with hs | rfl
      · exact h4 s hs
      · exact not_lt.mp hv

/-- A choice on a comparison of ideal numbers. -/
theorem select_ogt {α : Type} (a b : EReal) (x y : α) :
    Scalar.select (FloatOps.cmpf (F := Ideal) (φ := .f32) .ogt a b) x y = if b < a then x else y := by
  show Scalar.select (BitVec.ofBool (decide (b < a))) x y = _
  by_cases h : b < a <;> simp [h, Scalar.select]

/-- One chunk's step at a place. -/
theorem step_apply (i : grid0.Coords) (q : BitVec 32) (x : Vec Ideal S1x8x1024 .f32) (acc : FVec Ideal S8x1024 .f32 × Words) (p : S8x1024.Idx) :
    (step i q x acc).1 p = (if acc.1 p < sums i q x p then sums i q x p else acc.1 p) ∧
    (step i q x acc).2 p = (if acc.1 p < sums i q x p then rows q p else acc.2 p) := by
  unfold step
  exact ⟨select_ogt _ _ _ _, select_ogt _ _ _ _⟩

/-- The word operations, as arithmetic. -/
theorem addi_eq (x y : BitVec 32) : IntOp.addi x y = x + y := rfl

theorem muli_eq (x y : BitVec 32) : IntOp.muli x y = x * y := rfl

theorem smuli_eq (x y : BitVec 32) : Scalar.muli x y = x * y := rfl

/-- The rows of a chunk at a place. -/
theorem rows_apply (n : ℕ) (p : S8x1024.Idx) : rows (BitVec.ofNat 32 n) p = BitVec.ofNat 32 (8 * n + p 0) := by
  unfold rows
  pointwise
  refine BitVec.eq_of_toNat_eq ?_
  simp only [addi_eq, smuli_eq, BitVec.toNat_add, BitVec.toNat_mul, BitVec.toNat_ofNat]
  omega

/-- The counter of a chunk at a place. -/
theorem counter_apply (i : grid0.Coords) (n : ℕ) (p : S8x1024.Idx) :
    addi (k0_pay1 i) (broadcast S8x1024 (Scalar.muli (BitVec.ofNat 32 n) 8192#32)) p = BitVec.ofNat 32 (i 0 * 1048576 + (8 * n + p 0) * 1024 + p 1) := by
  unfold k0_pay1
  pointwise
  refine BitVec.eq_of_toNat_eq ?_
  simp only [addi_eq, muli_eq, smuli_eq, BitVec.toNat_add, BitVec.toNat_mul, BitVec.toNat_ofNat]
  omega

/-- The noise of a word, at a place. -/
theorem noise_apply (b : Words) (p : S8x1024.Idx) : noise (F := Ideal) b p = noiseOf (b p) := by
  have h0 : Ideal.ofBits .f32 0x00000000#32 = 0 := by simp [Ideal.ofBits, Ideal.ieee]
  have hf : fraction (F := Ideal) b p = fractionOf (b p) := by
    show Ideal.ofBits .f32 (IntOp.ori (IntOp.shrui .vector (b p) 9#32) 1065353216#32) - Ideal.ofBits .f32 0x3F800000#32 = _
    rw [Ideal.ofBits_one_f32]
    rfl
  show Ideal.ofBits .f32 0x00000000#32 - Ideal.log (Ideal.ofBits .f32 0x00000000#32 - Ideal.log (max (Ideal.ofBits .f32 0x00800000#32)
    (fraction (F := Ideal) b p * Ideal.ofBits .f32 0x3F800000#32 + Ideal.ofBits .f32 0x00800000#32))) = _
  rw [h0, hf, Ideal.ofBits_one_f32, mul_one, zero_sub, zero_sub]
  rfl

/-- The logit of row `r`, column `t` of block `i`: the input plus the noise of the place's counter. -/
def logit (i : grid0.Coords) (X : S1x1024x1024.Idx → EReal) (t : Fin 1024) (r : ℕ) : EReal :=
  (if h : r < 1024 then X (ValueIdx.ix3 0 ⟨r, h⟩ t) else 0) + noiseOf (draw (BitVec.ofNat 32 (i 0 * 1048576 + r * 1024 + t)))

/-- The sums of a chunk at a place. -/
theorem sums_apply (i : grid0.Coords) (n : ℕ) (hn : n < 128) (X : S1x1024x1024.Idx → EReal) (x : Vec Ideal S1x8x1024 .f32)
    (hx : ∀ (a : Fin 8) (t : Fin 1024), x (ValueIdx.ix3 0 a t) = X (ValueIdx.ix3 0 ⟨8 * n + a, by omega⟩ t)) (a : Fin 8) (t : Fin 1024) :
    sums i (BitVec.ofNat 32 n) x (ValueIdx.ix2 a t) = logit i X t (8 * n + a) := by
  have e1 : shapeCast S8x1024 x shapeCasts_S1x8x1024_S8x1024 (ValueIdx.ix2 a t) = x (ValueIdx.ix3 0 a t) := ValueIdx.shapeCast_1ab_ab_apply x _ a t
  have e2 : chunkNoise (F := Ideal) i (BitVec.ofNat 32 n) (ValueIdx.ix2 a t) = noiseOf (draw (BitVec.ofNat 32 (i 0 * 1048576 + (8 * n + a) * 1024 + t))) := by
    unfold chunkNoise
    exact (noise_apply _ _).trans (congrArg noiseOf ((draw_at _ _).trans (congrArg draw (counter_apply i n _))))
  have hr : 8 * n + a.val < 1024 := by have := a.isLt; omega
  unfold logit
  rw [dif_pos hr, ← hx a t, ← e1, ← e2]
  rfl

/-- A chunk's number as a word. -/
theorem chunkNo_eq (k : Fin k0_t1_loop.trips) (j : ℕ) : chunkNo k (BitVec.ofNat 32 j) = BitVec.ofNat 32 (4 * k + j) := by
  have hk : k.val < 32 := Nat.lt_of_lt_of_le k.isLt k0_t1_abs.2.1
  refine BitVec.eq_of_toNat_eq ?_
  show ((0#32 + BitVec.ofNat 32 k.val * 1#32) * 4#32 + BitVec.ofNat 32 j).toNat = _
  simp only [BitVec.toNat_add, BitVec.toNat_mul, BitVec.toNat_ofNat]
  omega

/-- The rows that a chunk loads. -/
theorem chunkRows_apply (arg1 : Memref sig .tc .vmem S1x1024x1024 .f32) (harg1 : arg1.IsWhole) (X : S1x1024x1024.Idx → EReal)
    (k : Fin k0_t1_loop.trips) (j : Fin 4) (a : Fin 8) (t : Fin 1024) (h : 8 * (4 * k.val + j.val) + a.val < 1024) :
    chunkRows (F := Ideal) arg1 (harg1.unread X) k j (ValueIdx.ix3 0 a t) = X (ValueIdx.ix3 0 ⟨8 * (4 * k.val + j.val) + a.val, h⟩ t) := by
  have hk : k.val < 32 := Nat.lt_of_lt_of_le k.isLt k0_t1_abs.2.1
  have hj := j.isLt
  have hoff : k0_off1 k (BitVec.ofNat 32 j) = ![0, 8 * (4 * k.val + j.val), 0] := by
    have e : ((0#32 + BitVec.ofNat 32 k.val * 1#32) * 4#32 + BitVec.ofNat 32 j.val) * 8#32 = BitVec.ofNat 32 (8 * (4 * k.val + j.val)) := by
      refine BitVec.eq_of_toNat_eq ?_
      simp only [BitVec.toNat_add, BitVec.toNat_mul, BitVec.toNat_ofNat]
      omega
    have e' : (((0#32 + BitVec.ofNat 32 k.val * 1#32) * 4#32 + BitVec.ofNat 32 j.val) * 8#32).toNat = 8 * (4 * k.val + j.val) := by
      rw [e, BitVec.toNat_ofNat]; omega
    show ![0, (((0#32 + BitVec.ofNat 32 k.val * 1#32) * 4#32 + BitVec.ofNat 32 j.val) * 8#32).toNat, 0] = _
    rw [e']
  unfold chunkRows
  rw [View.readAt_unit_congr _ hoff _ (by rw [← hoff]; exact k0_off1_inb k j), harg1.readAt_unread]
  refine congrArg X ?_
  funext b
  apply Fin.ext
  match b with
  | ⟨0, _⟩ => rfl
  | ⟨1, _⟩ => exact (congrArg (8 * (4 * k.val + j.val) + ·) (Nat.one_mul a.val) : 8 * (4 * k.val + j.val) + 1 * a.val = _)
  | ⟨2, _⟩ => exact ((Nat.zero_add _).trans (Nat.one_mul t.val) : 0 + 1 * t.val = _)

end Cert.KernelIdeal.Own

end
-- ==== Proof.LoopKept.lean ====
module

public import proofs.«01_k».proof.Proof.Loop

@[expose] public section

set_option maxRecDepth 16384
set_option maxHeartbeats 2000000

noncomputable section

/-!
# The kernel's loop, from its first trip to its last

After `n` trips each lane keeps the greatest logit of its first `4 n` rows, and the first of them that holds it.
-/

namespace Cert.KernelIdeal.Own

open Idealize.ShloMosaic Idealize.ShloMosaic.TcCoe Idealize.SL.Sem Cert.KernelIdeal Cert.KernelIdeal.Gen Cert.Cipher Cert.Noise Cert.Folds

variable (i : grid0.Coords) (X : S1x1024x1024.Idx → EReal)

/-- One chunk's step keeps what is kept. -/
theorem step_kept (q : ℕ) (hq : q < 128) (x : Vec Ideal S1x8x1024 .f32)
    (hx : ∀ (a : Fin 8) (t : Fin 1024), x (ValueIdx.ix3 0 a t) = X (ValueIdx.ix3 0 ⟨8 * q + a, by omega⟩ t))
    (acc : FVec Ideal S8x1024 .f32 × Words) (a : Fin 8) (t : Fin 1024)
    (h : Kept (logit i X t) a q (acc.1 (ValueIdx.ix2 a t)) (acc.2 (ValueIdx.ix2 a t))) :
    Kept (logit i X t) a (q + 1) ((step i (BitVec.ofNat 32 q) x acc).1 (ValueIdx.ix2 a t)) ((step i (BitVec.ofNat 32 q) x acc).2 (ValueIdx.ix2 a t)) := by
  have ha := a.isLt
  have hn := h.next
  obtain ⟨e1, e2⟩ := step_apply i (BitVec.ofNat 32 q) x acc (ValueIdx.ix2 a t)
  have hr : rows (BitVec.ofNat 32 q) (ValueIdx.ix2 a t) = BitVec.ofNat 32 (8 * q + a) := rows_apply q (ValueIdx.ix2 a t)
  rw [e1, e2, sums_apply i q hq X x hx a t, hr]
  exact hn

/-- After `n` trips. -/
theorem loop_kept (c : Dev nD) (arg1 : Memref sig .tc .vmem S1x1024x1024 .f32) (harg1 : arg1.IsWhole)
    (arg2 : Memref sig .tc .vmem S1x1024x1024 .f32) (harg2 : arg2.IsWhole) (a : Fin 8) (t : Fin 1024) (n : ℕ) (hn : n ≤ k0_t1_loop.trips) :
    Kept (logit i X t) a (4 * n)
      ((st_k0_t1 (F := Ideal) Variants.none c none i arg1 harg1 arg2 harg2 (iota .tc S8x1024 32 [0] iota_S8x1024_d0_w32) (harg1.unread X) (k0_pay2, k0_pay3) n).1 (ValueIdx.ix2 a t))
      ((st_k0_t1 (F := Ideal) Variants.none c none i arg1 harg1 arg2 harg2 (iota .tc S8x1024 32 [0] iota_S8x1024_d0_w32) (harg1.unread X) (k0_pay2, k0_pay3) n).2 (ValueIdx.ix2 a t)) := by
  induction n with
  | zero =>
    left
    refine ⟨?_, fun s hs => absurd hs (by omega)⟩
    rw [st_k0_t1_zero]
    show Ideal.ofBits .f32 0xFF800000#32 = ⊥
    simp [Ideal.ofBits, Ideal.ieee]
  | succ n ih =>
    have ih := ih (Nat.le_of_succ_le hn)
    have hk : n < 32 := Nat.lt_of_lt_of_le (Nat.lt_of_succ_le hn) k0_t1_abs.2.1
    rw [st_k0_t1_succ (F := Ideal) Variants.none c none i arg1 harg1 arg2 harg2 _ _ _ ⟨n, hn⟩, trip_eq]
    generalize st_k0_t1 (F := Ideal) Variants.none c none i arg1 harg1 arg2 harg2 (iota .tc S8x1024 32 [0] iota_S8x1024_d0_w32) (harg1.unread X) (k0_pay2, k0_pay3) n = acc at ih ⊢
    have hrow : ∀ (j : Fin 4) (a : Fin 8) (t : Fin 1024), chunkRows (F := Ideal) arg1 (harg1.unread X) ⟨n, hn⟩ j (ValueIdx.ix3 0 a t) =
        X (ValueIdx.ix3 0 ⟨8 * (4 * n + j) + a, by omega⟩ t) := fun j a t => chunkRows_apply arg1 harg1 X ⟨n, hn⟩ j a t _
    have e : ∀ j : ℕ, chunkNo ⟨n, hn⟩ (BitVec.ofNat 32 j) = BitVec.ofNat 32 (4 * n + j) := fun j => chunkNo_eq ⟨n, hn⟩ j
    rw [show (3#32 : BitVec 32) = BitVec.ofNat 32 3 from rfl, show (2#32 : BitVec 32) = BitVec.ofNat 32 2 from rfl,
      show (1#32 : BitVec 32) = BitVec.ofNat 32 1 from rfl, show (0#32 : BitVec 32) = BitVec.ofNat 32 0 from rfl, e, e, e, e]
    have h0 := step_kept i X (4 * n + 0) (by omega) _ (hrow 0) acc a t ih
    have h1 := step_kept i X (4 * n + 1) (by omega) _ (hrow 1) _ a t h0
    have h2 := step_kept i X (4 * n + 2) (by omega) _ (hrow 2) _ a t h1
    exact step_kept i X (4 * n + 3) (by omega) _ (hrow 3) _ a t h2

end Cert.KernelIdeal.Own

end
-- ==== Proof.Pick.lean ====
module

public import proofs.«01_k».proof.Proof.Loop
public import proofs.«01_k».proof.Proof.RefColumn
public import Idealize.ShloMosaic.Lib.KernelVsHost
public import Idealize.ShloMosaic.Lib.ValueLayoutCasts
public import Idealize.ShloMosaic.PureOps.Reduce

@[expose] public section

set_option maxRecDepth 16384
set_option maxHeartbeats 1000000

noncomputable section

/-!
# What the kernel stores

From what the eight lanes keep after the last chunk, the kernel's store is 1 at the first row that holds its column's
greatest logit, and 0 elsewhere.
-/

namespace Cert.KernelIdeal.Own

open Idealize.ShloMosaic Idealize.ShloMosaic.TcCoe Idealize.SL.Sem Cert.KernelIdeal Cert.KernelIdeal.Gen Cert.Folds

/-- A reduction down a column whose operation keeps one of its two arguments ends at an element that absorbs the column and the start. -/
theorem column_absorb {α : Type} (h : S8x1024.Reduces [0] S1024) (f : α → α → α) (e : α) (V : S8x1024.Idx → α) (t : Fin 1024) (p : α)
    (hf : ∀ a b, f a b = a ∨ f a b = b) (hp : ∀ q, q = e ∨ (∃ a : Fin 8, q = V (ValueIdx.ix2 a t)) → f q p = p ∧ f p q = p)
    (hm : ∃ a : Fin 8, V (ValueIdx.ix2 a t) = p) : reduceFold h f e V (ValueIdx.ix1 t) = p := by
  rw [reduceFold_rows h f e V (ValueIdx.ix1 t)]
  have hcol : ∀ r : Fin 8, Shape.pair r (h.col (ValueIdx.ix1 t)) = ValueIdx.ix2 r t := by
    intro r
    exact ValueIdx.pair_eq_ix2 r t
  have e1 : (List.finRange 8).foldl (fun acc r => f acc (V (Shape.pair r (h.col (ValueIdx.ix1 t))))) e =
      ((List.finRange 8).map fun r => V (ValueIdx.ix2 r t)).foldl f e := by
    rw [List.foldl_map]
    exact congrArg (fun g => List.foldl g e (List.finRange 8)) (funext fun acc => funext fun r => congrArg (fun z => f acc (V z)) (hcol r))
  refine e1.trans (foldl_absorb f p e _ hf (fun q hq => hp q ?_) ?_)
  · rcases hq with hq | hq
    · exact Or.inl hq
    · obtain ⟨a, -, rfl⟩ := List.mem_map.mp hq
      exact Or.inr ⟨a, rfl⟩
  · obtain ⟨a, rfl⟩ := hm
    exact List.mem_map.mpr ⟨a, List.mem_finRange a, rfl⟩

/-- The maximum down a column. -/
theorem column_max (h : S8x1024.Reduces [0] S1024) (V : S8x1024.Idx → EReal) (t : Fin 1024) (p : EReal)
    (hle : ∀ a : Fin 8, V (ValueIdx.ix2 a t) ≤ p) (hm : ∃ a : Fin 8, V (ValueIdx.ix2 a t) = p) :
    reduceFold h max ⊥ V (ValueIdx.ix1 t) = p := by
  refine column_absorb h max ⊥ V t p (fun a b => (le_total a b).symm.imp max_eq_left max_eq_right) ?_ hm
  rintro q (rfl | ⟨a, rfl⟩)
  · exact ⟨max_eq_right bot_le, max_eq_left bot_le⟩
  · exact ⟨max_eq_right (hle a), max_eq_left (hle a)⟩

/-- The least word down a column of words between 0 and the start. -/
theorem column_min (h : S8x1024.Reduces [0] S1024) (I : S8x1024.Idx → BitVec 32) (t : Fin 1024) (r : ℕ) (hr : r < 1024)
    (hle : ∀ a : Fin 8, I (ValueIdx.ix2 a t) = 2147483647#32 ∨ ∃ n, r ≤ n ∧ n < 1024 ∧ I (ValueIdx.ix2 a t) = BitVec.ofNat 32 n)
    (hm : ∃ a : Fin 8, I (ValueIdx.ix2 a t) = BitVec.ofNat 32 r) :
    reduceFold h IntOp.minsi 2147483647#32 I (ValueIdx.ix1 t) = BitVec.ofNat 32 r := by
  have key : ∀ n : ℕ, r ≤ n → n < 2147483648 → IntOp.minsi (BitVec.ofNat 32 n) (BitVec.ofNat 32 r) = BitVec.ofNat 32 r ∧
      IntOp.minsi (BitVec.ofNat 32 r) (BitVec.ofNat 32 n) = BitVec.ofNat 32 r := by
    intro n hn hn'
    have ht : ∀ k : ℕ, k < 2147483648 → (BitVec.ofNat 32 k).toInt = k := by
      intro k hk
      rw [BitVec.toInt_eq_toNat_of_lt] <;> simp only [BitVec.toNat_ofNat] <;> omega
    have e1 : (BitVec.ofNat 32 n).slt (BitVec.ofNat 32 r) = false := by
      rw [BitVec.slt, decide_eq_false_iff_not, ht n hn', ht r (by omega)]; omega
    have e2 : n ≠ r → (BitVec.ofNat 32 r).slt (BitVec.ofNat 32 n) = true := by
      intro g
      rw [BitVec.slt, decide_eq_true_iff, ht n hn', ht r (by omega)]; omega
    refine ⟨?_, ?_⟩
    · unfold IntOp.minsi; rw [e1]; rfl
    · by_cases g : n = r
      · subst g; unfold IntOp.minsi; exact ite_self _
      · unfold IntOp.minsi; rw [e2 g]; rfl
  refine column_absorb h IntOp.minsi 2147483647#32 I t _ (fun a b => ?_) ?_ hm
  · unfold IntOp.minsi; split
    · exact Or.inl rfl
    · exact Or.inr rfl
  · rintro q (rfl | ⟨a, rfl⟩)
    · exact key 2147483647 (by omega) (by omega)
    · rcases hle a with e | ⟨n, h1, h2, e⟩
      · rw [e]; exact key 2147483647 (by omega) (by omega)
      · rw [e]; exact key n h1 (by omega)

/-- The flag of an equality of words, widened and read as a float, is 1 where they are equal and 0 elsewhere. -/
theorem hot_apply {s : Shape} (x y : IVec s 32) (j : s.Idx) (h : 1 < 32) :
    sitofp (F := Ideal) .f32 (extui 32 (cmpi .eq x y) h) j = if x j = y j then (1 : EReal) else 0 := by
  rw [sitofp_extui_eq_uitofp]
  exact Cert.ReferenceIdeal.Own.hot_word (x j) (y j)

/-- A select on equality of extended reals. -/
theorem select_oeq {s : Shape} (x y : FVec Ideal s .f32) (a b : IVec s 32) (j : s.Idx) :
    select (cmpf (F := Ideal) (φ := .f32) .oeq x y) a b j = if x j = y j then a j else b j := by
  show Scalar.select (BitVec.ofBool (decide (x j = y j))) (a j) (b j) = _
  by_cases h : x j = y j <;> simp [h, Scalar.select]

/-- The number of a place along the first axis of the square. -/
theorem iota_rows (row t : Fin 1024) : iota .tc S1024x1024 32 [0] iota_S1024x1024_d0_w32 (ValueIdx.ix2 row t) = BitVec.ofNat 32 row := by
  pointwise

/-- The greatest value the lanes of a column hold. -/
theorem top_apply (V : FVec Ideal S8x1024 .f32) (t : Fin 1024) (p : EReal)
    (hle : ∀ a : Fin 8, V (ValueIdx.ix2 a t) ≤ p) (hm : ∃ a : Fin 8, V (ValueIdx.ix2 a t) = p) :
    multiReduction (F := Ideal) (φ := .f32) .maximumf [0] S1024 V 0xFF800000#32 reduces_S8x1024_S1024 (.inl rfl) rfl (ValueIdx.ix1 t) = p := by
  have e : (FloatOps.ofBits .f32 0xFF800000#32 : Ideal .f32) = (⊥ : EReal) := by
    show Ideal.ofBits .f32 0xFF800000#32 = ⊥
    simp [Ideal.ofBits, Ideal.ieee]
  refine (congrFun (multiReduction_maximumf_eq_reduceFold V 0xFF800000#32 reduces_S8x1024_S1024 (.inl rfl) rfl) (ValueIdx.ix1 t)).trans ?_
  rw [e]
  exact column_max _ V t p hle hm

/-- The least word the lanes of a column hold. -/
theorem least_apply (I : IVec S8x1024 32) (t : Fin 1024) (r : ℕ) (hr : r < 1024)
    (hle : ∀ a : Fin 8, I (ValueIdx.ix2 a t) = 2147483647#32 ∨ ∃ n, r ≤ n ∧ n < 1024 ∧ I (ValueIdx.ix2 a t) = BitVec.ofNat 32 n)
    (hm : ∃ a : Fin 8, I (ValueIdx.ix2 a t) = BitVec.ofNat 32 r) :
    multiReductionI .minsi [0] S1024 I 2147483647#32 reduces_S8x1024_S1024 rfl (ValueIdx.ix1 t) = BitVec.ofNat 32 r := by
  exact (congrFun (multiReductionI_eq_reduceFold .minsi I 2147483647#32 reduces_S8x1024_S1024 rfl) (ValueIdx.ix1 t)).trans
    (column_min _ I t r hr hle hm)

/-- **The kernel's store at a place** from what the lanes keep after all the chunks. -/
theorem pay8_apply (f : ℕ → EReal) (V : FVec Ideal S8x1024 .f32) (I : IVec S8x1024 32) (t row : Fin 1024) (u : Fin 1)
    (hk : ∀ a : Fin 8, Kept f a 128 (V (ValueIdx.ix2 a t)) (I (ValueIdx.ix2 a t))) (r : Fin 1024) (hr : First (fun s : Fin 1024 => f s) r)
    (hb : ⊥ < f r) : k0_pay8 (F := Ideal) V I (ValueIdx.ix3 u row t) = if (row : ℕ) = r then (1 : EReal) else 0 := by
  have hk' : ∀ a : Fin 8, V (ValueIdx.ix2 a t) ≠ ⊥ → ∃ k < 128, I (ValueIdx.ix2 a t) = BitVec.ofNat 32 (8 * k + a) ∧
      V (ValueIdx.ix2 a t) = f (8 * k + a) ∧ (∀ s < 128, f (8 * s + a) ≤ V (ValueIdx.ix2 a t)) ∧ ∀ s < k, f (8 * s + a) < V (ValueIdx.ix2 a t) :=
    fun a hne => (hk a).resolve_left fun h => hne h.1
  have hle : ∀ a : Fin 8, V (ValueIdx.ix2 a t) ≤ f r := by
    intro a
    by_cases hne : V (ValueIdx.ix2 a t) = ⊥
    · rw [hne]; exact bot_le
    · obtain ⟨k, hk, -, hv, -⟩ := hk' a hne
      rw [hv]
      exact hr.1 ⟨8 * k + a, by omega⟩
  have hlane : ∃ a : Fin 8, V (ValueIdx.ix2 a t) = f r ∧ I (ValueIdx.ix2 a t) = BitVec.ofNat 32 r := by
    have hr8 : 8 * ((r : ℕ) / 8) + (r : ℕ) % 8 = r := by omega
    have hne : V (ValueIdx.ix2 ⟨(r : ℕ) % 8, by omega⟩ t) ≠ ⊥ := by
      intro hv
      rcases hk ⟨(r : ℕ) % 8, by omega⟩ with ⟨-, h⟩ | ⟨k, -, -, -, h, -⟩
      · have := h (r / 8) (by omega)
        rw [show 8 * ((r : ℕ) / 8) + ((⟨(r : ℕ) % 8, by omega⟩ : Fin 8) : ℕ) = r from hr8] at this
        exact hb.ne' this
      · have := h (r / 8) (by omega)
        rw [show 8 * ((r : ℕ) / 8) + ((⟨(r : ℕ) % 8, by omega⟩ : Fin 8) : ℕ) = r from hr8, hv] at this
        exact hb.ne' (le_bot_iff.mp this)
    obtain ⟨k, hk, hw, hv, hall, hlt⟩ := hk' ⟨r % 8, by omega⟩ hne
    have hv' : V (ValueIdx.ix2 ⟨(r : ℕ) % 8, by omega⟩ t) = f r := by
      refine le_antisymm (hle _) ?_
      have := hall (r / 8) (by omega)
      rwa [show 8 * ((r : ℕ) / 8) + (r : ℕ) % 8 = r by omega] at this
    refine ⟨_, hv', hw.trans (congrArg _ ?_)⟩
    show 8 * k + (r : ℕ) % 8 = r
    have h1 : ¬ (r : ℕ) / 8 < k := by
      intro h
      have := hlt _ h
      rw [show 8 * ((r : ℕ) / 8) + (r : ℕ) % 8 = r by omega, hv'] at this
      exact lt_irrefl _ this
    have h2 : ¬ k < (r : ℕ) / 8 := by
      intro h
      have := hr.2 ⟨8 * k + (r : ℕ) % 8, by omega⟩ (by show 8 * k + (r : ℕ) % 8 < (r : ℕ); omega)
      rw [hv] at hv'
      exact absurd hv' (ne_of_lt this)
    omega
  unfold k0_pay8
  dsimp only
  rw [ValueIdx.shapeCast_ab_1ab_apply, hot_apply, iota_rows, ValueIdx.broadcastTo_1b_ab_apply, ValueIdx.shapeCast_a_1a_apply]
  have htop : ∀ a : Fin 8, broadcastTo S8x1024 (shapeCast S1x1024 (multiReduction (F := Ideal) (φ := .f32) .maximumf [0] S1024 V 0xFF800000#32
      reduces_S8x1024_S1024 (.inl rfl) rfl) shapeCasts_S1024_S1x1024) broadcasts_S1x1024_S8x1024 (ValueIdx.ix2 a t) = f r := by
    intro a
    rw [ValueIdx.broadcastTo_1b_ab_apply, ValueIdx.shapeCast_a_1a_apply]
    exact top_apply V t (f r) hle (hlane.imp fun a h => h.1)
  rw [least_apply _ t r r.2]
  · exact if_congr ((Cert.ReferenceIdeal.Own.ofNat_eq_iff row r row.2 r.2).trans eq_comm) rfl rfl
  · intro a
    rw [select_oeq, htop]
    split
    · next e =>
      obtain ⟨k, hk, hw, hv, -⟩ := hk' a (by rw [e]; exact hb.ne')
      refine Or.inr ⟨8 * k + a, ?_, by omega, hw⟩
      by_contra h
      have : f (8 * k + a) < f r := hr.2 ⟨8 * k + a, by omega⟩ (by show 8 * k + (a : ℕ) < (r : ℕ); omega)
      rw [← e, hv] at this
      exact lt_irrefl _ this
    · exact Or.inl rfl
  · obtain ⟨a, h1, h2⟩ := hlane
    exact ⟨a, by rw [select_oeq, htop, if_pos h1]; exact h2⟩

end Cert.KernelIdeal.Own

end
-- ==== Proof.KernelArray.lean ====
module

public import proofs.«01_k».proof.Proof.LoopKept
public import proofs.«01_k».proof.Proof.Pick
public import proofs.«01_k».proof.Proof.Gen.KernelIdeal.Frame
public import Idealize.ShloMosaic.Lib.Pipeline.Value
public import Idealize.ShloMosaic.Lib.Pipeline.StackWindow
public import Idealize.ShloMosaic.Lib.Claim
public import Idealize.ShloMosaic.Lib.Tactic

@[expose] public section

set_option maxRecDepth 16384
set_option maxHeartbeats 1000000

noncomputable section

/-!
# What the kernel's array ends holding

Grid point b stages block b of the operand and writes block b of the result. The array ends holding, at every place,
what its own point left there: 1 at the first row that holds the column's greatest logit, 0 elsewhere.
-/

namespace Cert.KernelIdeal.Own

open Idealize.ShloMosaic Idealize.ShloMosaic.TcCoe Idealize.SL.Sem Cert.KernelIdeal Cert.KernelIdeal.Gen Cert.Folds

theorem offsets_zero : (![0, 0, 0] : Fin 3 → Nat) = fun _ => 0 := funext fun a => by fin_cases a <;> rfl

/-- The trips of the loop are 32. -/
theorem trips_eq : k0_t1_loop.trips = 32 := by decide

/-- **What one grid point leaves in its block**, on an operand block `X` whose column `t` has the logits of `logit`. -/
theorem block_apply (c : Dev nD) (i : grid0.Coords) (arg1 : Memref sig .tc .vmem S1x1024x1024 .f32) (harg1 : arg1.IsWhole)
    (arg2 : Memref sig .tc .vmem S1x1024x1024 .f32) (harg2 : arg2.IsWhole) (X : Vec Ideal S1x1024x1024 .f32)
    (u : Fin 1) (row t : Fin 1024) (r : Fin 1024) (hr : First (fun s : Fin 1024 => logit i X t s) r) (hb : ⊥ < logit i X t r) :
    out0_A_1 c i arg1 harg1 arg2 harg2 X (ValueIdx.ix3 u row t) = if (row : ℕ) = r then (1 : EReal) else 0 := by
  unfold out0_A_1
  rw [View.read_writes_eq_canon _ _ _ (cover0_A_1 c i arg1 harg1 arg2 harg2 X)]
  unfold kernelRun0_A
  dsimp only
  rw [View.canon_unit_zero offsets_zero]
  refine pay8_apply (logit i X t) _ _ t row u (fun a => ?_) r hr hb
  have := loop_kept i X c arg1 harg1 arg2 harg2 a t k0_t1_loop.trips le_rfl
  rw [show 4 * k0_t1_loop.trips = 128 by rw [trips_eq]] at this
  exact this

variable (m : (ℓ : Loc nD τ sig) → Buf (Elt Ideal) ℓ)

/-- The grid point of a block number. -/
def pointOf (b : Fin 16) : Fin cfg0.N := ⟨b, by rw [show cfg0.N = 16 from N_0]; exact b.isLt⟩

/-- What the array ends holding: at every place what the place's own point left. -/
def result (c : Dev nD) : Buf (Elt Ideal) ((c : Thread nD τ).loc main_v1) :=
  fun y : S16x1024x1024.Idx => outsAt0 m c (pointOf (y 0)) (ValueIdx.ix3 0 (y 1) (y 2))

theorem index_eq (t : Fin cfg0.N) : win0_1.index t 0 = t.val ∧ win0_1.index t 1 = 0 ∧ win0_1.index t 2 = 0 := by
  revert t; decide +kernel

theorem index_in_eq (t : Fin cfg0.N) : win0_0.index t 0 = t.val ∧ win0_0.index t 1 = 0 ∧ win0_0.index t 2 = 0 := by
  revert t; decide +kernel

theorem coords_eq (t : Fin cfg0.N) : (grid0.coords t 0 : ℕ) = t.val := by
  revert t; decide +kernel

theorem xsize_eq (t : Fin cfg0.N) : win0_1.xsize (grid0.coords t) 0 = 1 ∧ win0_1.xsize (grid0.coords t) 1 = 1024 ∧
    win0_1.xsize (grid0.coords t) 2 = 1024 := by
  revert t; decide +kernel

/-- An index of a block has nothing but zero in front. -/
theorem block_index (y : S1x1024x1024.Idx) : y = ValueIdx.ix3 0 (y 1) (y 2) := by
  funext a
  apply Fin.ext
  match a with
  | ⟨0, _⟩ =>
    have hy : (y 0 : ℕ) < 1 := (y 0).isLt
    show (y 0 : ℕ) = 0
    omega
  | ⟨1, _⟩ => rfl
  | ⟨2, _⟩ => rfl

/-- The place of the array at which a point's block has an index. -/
def place (t : Fin cfg0.N) (y : S1x1024x1024.Idx) : S16x1024x1024.Idx :=
  ValueIdx.ix3 ⟨t.val, by rw [← show cfg0.N = 16 from N_0]; exact t.isLt⟩ (y 1) (y 2)

theorem result_place (c : Dev nD) (t : Fin cfg0.N) (y : S1x1024x1024.Idx) : result m c (place t y) = outsAt0 m c t y :=
  congrArg (outsAt0 m c t) (block_index y).symm

theorem emb_out (t : Fin cfg0.N) (y : S1x1024x1024.Idx) : ((cfg0.win 1).blk t).view.emb y = place t y := by
  obtain ⟨h0, h1, h2⟩ := index_eq t
  funext a
  apply Fin.ext
  match a with
  | ⟨0, _⟩ =>
    have hy : (y 0 : ℕ) < 1 := (y 0).isLt
    show win0_1.index t 0 * 1 + 1 * (y 0 : ℕ) = t.val
    rw [h0]; omega
  | ⟨1, _⟩ => show win0_1.index t 1 * 1024 + 1 * (y 1 : ℕ) = (y 1 : ℕ); rw [h1]; omega
  | ⟨2, _⟩ => show win0_1.index t 2 * 1024 + 1 * (y 2 : ℕ) = (y 2 : ℕ); rw [h2]; omega

/-- A block whose entries are an array's at the block's places is the array read through the block. -/
theorem read_block (t : Fin cfg0.N) (B : Vec Ideal S1x1024x1024 .f32) (R : S16x1024x1024.Idx → EReal) (h : ∀ y, B y = R (place t y)) :
    (cfg0.win 1).cut (grid0.coords t) B = ((cfg0.win 1).blk t).view.read (Elt Ideal) R := by
  funext y
  rw [View.read_apply]
  exact (h y).trans (congrArg R (emb_out t y)).symm

/-- The block of a point, read through the array, is the block the point left. -/
theorem flushed_eq (c : Dev nD) (t : Fin cfg0.N) (hf : (cfg0.win 1).flush t = true) :
    (dats m 0 c).flushed 1 t = ((cfg0.win 1).blk t).view.read (Elt Ideal) (result m c) := by
  show (cfg0.win 1).cut (grid0.coords t) ((dats m 0 c).after 1 t) = _
  rw [after0_1]
  exact read_block t (outsAt0 m c t) (result m c) fun y => (result_place m c t y).symm

/-- So the array ends holding the result. -/
theorem final_eq (c : Dev nD) : (dats m 0 c).arrAt 1 cfg0.N = result m c :=
  (dats m 0 c).arrAt_eq_of_cover 1 (result m c) (flushed_eq m c) fun i => ⟨pointOf (i 0), flush0_1 _, by
    show i ∈ ((View.whole main_v1).slice (win0_1.rect (pointOf (i 0)))).set
    rw [View.set_slice_whole, Rect.mem_set_unit]
    obtain ⟨h0, h1, h2⟩ := index_eq (pointOf (i 0))
    obtain ⟨g0, g1, g2⟩ := xsize_eq (pointOf (i 0))
    have e0 : (i 0 : ℕ) < 16 := (i 0).isLt
    have e1 : (i 1 : ℕ) < 1024 := (i 1).isLt
    have e2 : (i 2 : ℕ) < 1024 := (i 2).isLt
    intro a
    match a with
    | ⟨0, _⟩ =>
      show win0_1.index (pointOf (i 0)) 0 * 1 ≤ (i 0 : ℕ) ∧ (i 0 : ℕ) < win0_1.index (pointOf (i 0)) 0 * 1 + win0_1.xsize (grid0.coords (pointOf (i 0))) 0
      rw [h0, g0]; show (i 0 : ℕ) * 1 ≤ _ ∧ _ < (i 0 : ℕ) * 1 + 1; omega
    | ⟨1, _⟩ =>
      show win0_1.index (pointOf (i 0)) 1 * 1024 ≤ (i 1 : ℕ) ∧ (i 1 : ℕ) < win0_1.index (pointOf (i 0)) 1 * 1024 + win0_1.xsize (grid0.coords (pointOf (i 0))) 1
      rw [h1, g1]; omega
    | ⟨2, _⟩ =>
      show win0_1.index (pointOf (i 0)) 2 * 1024 ≤ (i 2 : ℕ) ∧ (i 2 : ℕ) < win0_1.index (pointOf (i 0)) 2 * 1024 + win0_1.xsize (grid0.coords (pointOf (i 0))) 2
      rw [h2, g2]; omega⟩

end Cert.KernelIdeal.Own

end
-- ==== Proof.KernelRun.lean ====
module

public import proofs.«01_k».proof.Proof.KernelArray
public import proofs.«01_k».proof.Proof.RefDraw

@[expose] public section

set_option maxRecDepth 16384
set_option maxHeartbeats 1000000

noncomputable section

/-!
# The kernel's run, read

The kernel's operand is the argument with its two last axes run together, and its answer is the array taken apart
again. So its answer at a place is 1 where the place's row is the first that holds its column's greatest logit, and 0
elsewhere.
-/

namespace Cert.KernelIdeal.Own

open Idealize.ShloMosaic Idealize.ShloMosaic.TcCoe Idealize.SL.Sem Cert.KernelIdeal Cert.KernelIdeal.Gen Cert.Folds Cert.Noise Cert.Cipher
open Cert.ReferenceIdeal.Own (atRow count)

/-- A place with its two last coordinates run together. -/
def flat (j : S16x1024x32x32.Idx) : S16x1024x1024.Idx :=
  ValueIdx.ix3 (j 0) (j 1) ⟨(j 2 : ℕ) * 32 + (j 3 : ℕ), by
    have h2 : (j 2 : ℕ) < 32 := (j 2).isLt
    have h3 : (j 3 : ℕ) < 32 := (j 3).isLt
    omega⟩

theorem flat_rowMajor (j : S16x1024x32x32.Idx) : (S16x1024x1024.rowMajor (flat j)).val = (S16x1024x32x32.rowMajor j).val := by
  rw [Shape.rowMajor_val_three, Shape.rowMajor_val_four]
  show (((j 0 : ℕ) * 1024 + (j 1 : ℕ)) * 1024 + ((j 2 : ℕ) * 32 + (j 3 : ℕ))) = ((((j 0 : ℕ) * 1024 + (j 1 : ℕ)) * 32 + (j 2 : ℕ)) * 32 + (j 3 : ℕ))
  omega

/-- An array taken apart, at a place. -/
theorem apart_apply (R : S16x1024x1024.Idx → EReal) (h : S16x1024x1024.ShapeCasts S16x1024x32x32) (j : S16x1024x32x32.Idx) :
    shapeCast S16x1024x32x32 R h j = R (flat j) := shapeCast_apply R h _ _ (flat_rowMajor j)

/-- An array run together, at a place. -/
theorem together_apply (A : S16x1024x32x32.Idx → EReal) (h : S16x1024x32x32.ShapeCasts S16x1024x1024) (j : S16x1024x32x32.Idx) :
    shapeCast S16x1024x1024 A h (flat j) = A j := shapeCast_apply A h _ _ (flat_rowMajor j).symm

variable (m : (ℓ : Loc nD τ sig) → Buf (Elt Ideal) ℓ)

/-- The kernel's argument. -/
def given (c : Dev nD) : S16x1024x32x32.Idx → EReal := m ((c : Thread nD τ).loc main_arg0)

/-- The operand is the argument run together. -/
theorem operand_eq (c : Dev nD) : V m c main_v0 = shapeCast S16x1024x1024 (given m c) shapeCasts_S16x1024x32x32_S16x1024x1024 := by
  entry_read
  rfl

theorem emb_in (t : Fin cfg0.N) (y : S1x1024x1024.Idx) : ((cfg0.win 0).blk t).view.emb y = place t y := by
  obtain ⟨h0, h1, h2⟩ := index_in_eq t
  funext a
  apply Fin.ext
  match a with
  | ⟨0, _⟩ =>
    have hy : (y 0 : ℕ) < 1 := (y 0).isLt
    show win0_0.index t 0 * 1 + 1 * (y 0 : ℕ) = t.val
    rw [h0]; omega
  | ⟨1, _⟩ => show win0_0.index t 1 * 1024 + 1 * (y 1 : ℕ) = (y 1 : ℕ); rw [h1]; omega
  | ⟨2, _⟩ => show win0_0.index t 2 * 1024 + 1 * (y 2 : ℕ) = (y 2 : ℕ); rw [h2]; omega

/-- The block a point stages. -/
theorem iblk_apply (c : Dev nD) (t : Fin cfg0.N) (y : S1x1024x1024.Idx) :
    iblk m c 0 t y = shapeCast S16x1024x1024 (given m c) shapeCasts_S16x1024x32x32_S16x1024x1024 (place t y) := by
  unfold iblk
  rw [View.read_apply]
  exact (congrArg (V m c main_v0) (emb_in t y)).trans (congrFun (operand_eq m c) _)

/-- A row of a place's column, as the point's block has it. -/
theorem place_row (j : S16x1024x32x32.Idx) (s : Fin 1024) :
    place (pointOf (j 0)) (ValueIdx.ix3 0 s (flat j 2)) = flat (atRow j s) := by
  funext a
  match a with
  | ⟨0, _⟩ => rfl
  | ⟨1, _⟩ => rfl
  | ⟨2, _⟩ => rfl

/-- The kernel's logit of a row of a place's column. -/
theorem logit_row (c : Dev nD) (j : S16x1024x32x32.Idx) (s : Fin 1024) :
    logit (grid0.coords (pointOf (j 0))) (iblk m c 0 (pointOf (j 0))) (flat j 2) s =
      given m c (atRow j s) + noiseOf (draw (BitVec.ofNat 32 (count (atRow j s)))) := by
  unfold logit
  rw [dif_pos s.isLt, coords_eq]
  refine congrArg₂ (· + ·) ?_ (congrArg (fun n => noiseOf (draw (BitVec.ofNat 32 n))) ?_)
  · rw [iblk_apply]
    exact (congrArg _ (place_row j s)).trans (together_apply _ _ _)
  · show (j 0 : ℕ) * 1048576 + (s : ℕ) * 1024 + ((j 2 : ℕ) * 32 + (j 3 : ℕ)) = (j 0 : ℕ) * 1048576 + (s : ℕ) * 1024 + (j 2 : ℕ) * 32 + (j 3 : ℕ)
    omega

/-- **The kernel's answer at a place.** -/
theorem answer_apply (c : Dev nD) (j : S16x1024x32x32.Idx) (r : Fin 1024)
    (hr : First (fun s : Fin 1024 => given m c (atRow j s) + noiseOf (draw (BitVec.ofNat 32 (count (atRow j s))))) r)
    (hb : ⊥ < given m c (atRow j r) + noiseOf (draw (BitVec.ofNat 32 (count (atRow j r))))) :
    shapeCast S16x1024x32x32 (result m c) shapeCasts_S16x1024x1024_S16x1024x32x32 j = if (j 1 : ℕ) = r then (1 : EReal) else 0 := by
  refine (apart_apply _ _ j).trans ?_
  show outsAt0 m c (pointOf (j 0)) (ValueIdx.ix3 0 (j 1) (flat j 2)) = _
  unfold outsAt0
  refine block_apply c _ _ _ _ _ _ 0 (j 1) (flat j 2) r ?_ ?_
  · rw [show (fun s : Fin 1024 => logit (grid0.coords (pointOf (j 0))) (iblk m c 0 (pointOf (j 0))) (flat j 2) s) = _ from
      funext fun s => logit_row m c j s]
    exact hr
  · exact (logit_row m c j r).symm ▸ hb

/-- The kernel's answer. -/
def answer (c : Dev nD) : S16x1024x32x32.Idx → EReal :=
  shapeCast S16x1024x32x32 (result m c) shapeCasts_S16x1024x1024_S16x1024x32x32

/-- What the line after the launch leaves in the kernel's result. -/
theorem answer_eq (c : Dev nD) : Pipeline.afterTail₀ cfgs (dats m) 0 (V0 m) [hostOps1] c main_v2 = answer m c := by
  have e : Pipeline.withArrays spec0 c (V0 m c) (fun w => (dats m 0 c).arrAt w cfg0.N) (Proc.devRef .tc main_v1) = result m c :=
    (Pipeline.withArrays_arr spec0 launch0.win.arr_inj c (V0 m c) (fun w => (dats m 0 c).arrAt w cfg0.N) 1).trans (final_eq m c)
  have key : ∀ X : Valuation τ sig (Elt Ideal), StableHlo.after [hostOps1].flatten X (Proc.devRef .tc main_v2) =
      shapeCast S16x1024x32x32 (X (Proc.devRef .tc main_v1)) shapeCasts_S16x1024x1024_S16x1024x32x32 := by
    intro X
    entry_read
    rfl
  unfold Pipeline.afterTail₀ answer
  rw [← e]
  exact key _

/-- **The kernel's run**: its result ends at the answer, its argument as it was. -/
theorem kernel_run (ρ : Dev nD → PrngReg) : θ_run defs (onTc (τ := τ) (main (F := Ideal))) ⟨m, fun _ => 0, ρ⟩ fun r => ∀ c : Dev nD,
    r.2.mem ((c.tc : Thread nD τ).loc main_v2) = answer m c ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (answer_eq m c),
     ((h c).2 main_arg0 (Pipeline.mem_restRefs_of main_arg0 (by decide) (by decide))).trans (W_main_arg0 m (dats m) c)⟩) (run_main m ρ)

end Cert.KernelIdeal.Own

end
-- ==== Proof.Same.lean ====
module

public import proofs.«01_k».proof.Defs
public import proofs.«01_k».proof.Proof.Finite
public import proofs.«01_k».proof.Proof.KernelRun
public import proofs.«01_k».proof.Proof.RefColumn
public import proofs.«01_k».proof.Proof.RefRun

@[expose] public section

set_option maxRecDepth 16384

noncomputable section

/-!
# The kernel and the reference end with the same result

In a column whose greatest element is real, the greatest logit is real, because the noise is. A column has a first row
that holds its greatest logit, and both programs put 1 there and 0 elsewhere.
-/

namespace Cert.Own

open Idealize.ShloMosaic Idealize.SL.Sem Cert.Folds Cert.Noise Cert.Cipher
open Cert.ReferenceIdeal.Own (atRow colOf tops tops_eq count argument logits refLine ref_logits out_apply)

/-- The two results at a place, of one argument. -/
theorem same_apply (m : (ℓ : Loc Cert.KernelIdeal.nD Cert.KernelIdeal.τ Cert.KernelIdeal.sig) → Buf (Elt Ideal) ℓ) (c : Dev Cert.KernelIdeal.nD)
    (d : Dev Cert.ReferenceIdeal.nD) (W : Valuation Cert.ReferenceIdeal.τ Cert.ReferenceIdeal.sig (Elt Ideal)) (hW : (refLine (F := Ideal) d).1 W)
    (hA : argument W = Cert.KernelIdeal.Own.given m c) (j : Cert.ReferenceIdeal.S16x1024x32x32.Idx)
    (hx : ∃ x : ℝ, tops (Cert.KernelIdeal.Own.given m c) (colOf j) = x) : Cert.ReferenceIdeal.Own.out W j = Cert.KernelIdeal.Own.answer m c j := by
  have hl : ∀ s, logits W (atRow j s) = Cert.KernelIdeal.Own.given m c (atRow j s) + noiseOf (draw (BitVec.ofNat 32 (count (atRow j s)))) :=
    fun s => by rw [ref_logits d W hW, hA]
  obtain ⟨r, hr⟩ := exists_first fun s : Fin 1024 => logits W (atRow j s)
  obtain ⟨q, hq⟩ := exists_first fun s : Fin 1024 => Cert.KernelIdeal.Own.given m c (atRow j s)
  obtain ⟨x, hx⟩ := hx
  rw [tops_eq _ j q hq] at hx
  obtain ⟨g, hg⟩ := noise_real (draw (BitVec.ofNat 32 (count (atRow j q))))
  have hb : ⊥ < logits W (atRow j r) := by
    refine lt_of_lt_of_le ?_ (hr.1 q)
    show ⊥ < logits W (atRow j q)
    rw [hl, hx, hg, ← EReal.coe_add]
    exact EReal.bot_lt_coe _
  obtain ⟨y, hy⟩ : ∃ y : ℝ, logits W (atRow j r) = y := by
    obtain ⟨n, hn⟩ := noise_real (draw (BitVec.ofNat 32 (count (atRow j r))))
    have hle : Cert.KernelIdeal.Own.given m c (atRow j r) ≤ (x : EReal) := hx ▸ hq.1 r
    rw [hl, hn] at hb ⊢
    generalize Cert.KernelIdeal.Own.given m c (atRow j r) = v at hle hb ⊢
    induction v using EReal.rec with
    | bot => rw [EReal.bot_add] at hb; exact absurd hb (lt_irrefl _)
    | coe v => exact ⟨v + n, (EReal.coe_add v n).symm⟩
    | top => exact absurd hle (not_le.mpr (EReal.coe_lt_top x))
  refine (out_apply d W hW j r y hr hy).trans (Cert.KernelIdeal.Own.answer_apply m c j r ?_ ?_).symm
  · rw [← show (fun s : Fin 1024 => logits W (atRow j s)) = _ from funext hl]
    exact hr
  · rw [← hl r]
    exact hb

/-- **The value claim.** -/
theorem algebraic : Cert.algebraic_KernelIdeal_ReferenceIdeal_pre_finite_tops (hKernelIdeal := Cert.KernelIdeal.Gen.facts)
    (hReferenceIdeal := Cert.ReferenceIdeal.Gen.facts) (hPre_finite_tops := Cert.Pre_finite_tops.Own.facts) := by
  intro m g m' g' hpre hagree
  refine ⟨fun c => Cert.KernelIdeal.Own.answer m c, Cert.KernelIdeal.Own.kernel_run m g, ?_⟩
  refine θ_run_mono (Cert.ReferenceIdeal.Own.ref_run (F := Ideal) m' g') fun _ h c => ?_
  obtain ⟨W, hE, hW, hA⟩ := h.1 c
  refine ⟨?_, ?_⟩
  · rw [hW]
    exact funext fun j => same_apply m c c W hE (hA.trans (hagree c)) j (Cert.Pre_finite_tops.Own.real_of_pre _ (hpre c) j)
  · rw [hW, hA]

end Cert.Own

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Finite
public import proofs.«01_k».proof.Proof.Same

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_finite_tops.Own.facts,
    Cert.Own.frame_kernel, Cert.Own.frame_kernelIdeal, fun m ρ _ => Cert.Own.frame_kernelIdeal m ρ trivial,
    Cert.Own.frame_referenceIdeal, fun m ρ _ => Cert.Own.frame_referenceIdeal m ρ trivial, trivial, Cert.Own.algebraic⟩

end Cert.Proof

end
